-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S2x128x2048 : Shape := ⟨3, ![2, 128, 2048]⟩
abbrev S4x128x2048 : Shape := ⟨3, ![4, 128, 2048]⟩
abbrev S128x2048 : Shape := ⟨2, ![128, 2048]⟩
abbrev S2 : Shape := ⟨1, ![2]⟩
abbrev S4 : Shape := ⟨1, ![4]⟩
abbrev S_ : Shape := ⟨0, ![]⟩
abbrev S1 : Shape := ⟨1, ![1]⟩
abbrev S1x128x2048 : Shape := ⟨3, ![1, 128, 2048]⟩
abbrev S128 : Shape := ⟨1, ![128]⟩
abbrev S128x1 : Shape := ⟨2, ![128, 1]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S8192x2048, .bf16⟩
  | .local _ .vmem, ⟨0, _⟩ => ⟨S2048, .f32⟩
  | .local _ .vmem, ⟨1, _⟩ => ⟨S2x128x2048, .f32⟩
  | .local _ .vmem, ⟨2, _⟩ => ⟨S2x128x2048, .f32⟩
  | .local _ .vmem, ⟨3, _⟩ => ⟨S2x128x2048, .bf16⟩
  | .local _ .vmem, ⟨4, _⟩ => ⟨S4x128x2048, .bf16⟩
  | .local _ .vmem, ⟨5, _⟩ => ⟨S128x2048, .f32⟩
  | .local _ .vmem, ⟨6, _⟩ => ⟨S2x128x2048, .bf16⟩
  | .local _ .vmem, ⟨7, _⟩ => ⟨S4x128x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v12 : BitVec 32 := Scalar.muli v2 c2_i32_7
  let v13 : BitVec 32 := Scalar.addi c0_i32 v12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v14 : BitVec 32 := Scalar.muli v6 c1_i32_8
  let v15 : BitVec 32 := Scalar.addi v13 v14
  v15.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v16 : BitVec 32 := Scalar.muli v7 c2_i32_10
  let v17 : BitVec 32 := Scalar.addi c0_i32_11 v16
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v18 : BitVec 32 := Scalar.muli v5 c1_i32_12
  let v19 : BitVec 32 := Scalar.addi v17 v18
  v19.toNat
def k0_off1 (d0 : Dev nD) (c0_i32_14 : BitVec 32) : Fin 3 → Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v8 : BitVec 32 := Scalar.muli v2 c4096_i32
  let v20 : BitVec 32 := Scalar.addi v8 c0_i32_14
  let c0_i32_20 : BitVec 32 := 0#32
  ![0, v20.toNat, 0]
def k0_off2 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v8 : BitVec 32 := Scalar.muli v2 c4096_i32
  let v20 : BitVec 32 := Scalar.addi v8 c0_i32_14
  let c0_i32_25 : BitVec 32 := 0#32
  ![v20.toNat, 0]
def k0_dev3 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_52 : BitVec 32 := 2#32
  let v56 : BitVec 32 := Scalar.muli v2 c2_i32_52
  let v57 : BitVec 32 := Scalar.addi c0_i32_53 v56
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_54 : BitVec 32 := 1#32
  let v58 : BitVec 32 := Scalar.muli v6 c1_i32_54
  let v59 : BitVec 32 := Scalar.addi v57 v58
  v59.toNat
def k0_dev4 (d0 : Dev nD) : Nat :=
  let c0_i32_75 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_74 : BitVec 32 := 2#32
  let v80 : BitVec 32 := Scalar.muli v2 c2_i32_74
  let v81 : BitVec 32 := Scalar.addi c0_i32_75 v80
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_76 : BitVec 32 := 1#32
  let v82 : BitVec 32 := Scalar.muli v6 c1_i32_76
  let v83 : BitVec 32 := Scalar.addi v81 v82
  v83.toNat
def k0_dev5 (d0 : Dev nD) : Nat :=
  let c0_i32_127 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_126 : BitVec 32 := 2#32
  let v145 : BitVec 32 := Scalar.muli v7 c2_i32_126
  let v146 : BitVec 32 := Scalar.addi c0_i32_127 v145
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_128 : BitVec 32 := 1#32
  let v147 : BitVec 32 := Scalar.muli v5 c1_i32_128
  let v148 : BitVec 32 := Scalar.addi v146 v147
  v148.toNat
def k0_dev6 (d0 : Dev nD) : Nat :=
  let c0_i32_170 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_169 : BitVec 32 := 2#32
  let v187 : BitVec 32 := Scalar.muli v2 c2_i32_169
  let v188 : BitVec 32 := Scalar.addi c0_i32_170 v187
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_171 : BitVec 32 := 1#32
  let v189 : BitVec 32 := Scalar.muli v6 c1_i32_171
  let v190 : BitVec 32 := Scalar.addi v188 v189
  v190.toNat
def k0_dev7 (d0 : Dev nD) : Nat :=
  let c0_i32_223 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_222 : BitVec 32 := 2#32
  let v252 : BitVec 32 := Scalar.muli v7 c2_i32_222
  let v253 : BitVec 32 := Scalar.addi c0_i32_223 v252
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_224 : BitVec 32 := 1#32
  let v254 : BitVec 32 := Scalar.muli v5 c1_i32_224
  let v255 : BitVec 32 := Scalar.addi v253 v254
  v255.toNat
def k0_off3 (d0 : Dev nD) (c0_i32_251 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c4096_i32_5 : BitVec 32 := 4096#32
  let v10 : BitVec 32 := Scalar.muli v9 c4096_i32_5
  let v286 : BitVec 32 := Scalar.addi v10 c0_i32_251
  let c0_i32_254 : BitVec 32 := 0#32
  ![v286.toNat, 0]
def k0_dev8 (d0 : Dev nD) : Nat :=
  let c0_i32_282 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_281 : BitVec 32 := 2#32
  let v310 : BitVec 32 := Scalar.muli v2 c2_i32_281
  let v311 : BitVec 32 := Scalar.addi c0_i32_282 v310
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_283 : BitVec 32 := 1#32
  let v312 : BitVec 32 := Scalar.muli v6 c1_i32_283
  let v313 : BitVec 32 := Scalar.addi v311 v312
  v313.toNat
def k0_dev9 (d0 : Dev nD) : Nat :=
  let c0_i32_353 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_352 : BitVec 32 := 2#32
  let v391 : BitVec 32 := Scalar.muli v7 c2_i32_352
  let v392 : BitVec 32 := Scalar.addi c0_i32_353 v391
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_354 : BitVec 32 := 1#32
  let v393 : BitVec 32 := Scalar.muli v5 c1_i32_354
  let v394 : BitVec 32 := Scalar.addi v392 v393
  v394.toNat
def k0_dev10 (d0 : Dev nD) : Nat :=
  let c0_i32_413 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_412 : BitVec 32 := 2#32
  let v449 : BitVec 32 := Scalar.muli v2 c2_i32_412
  let v450 : BitVec 32 := Scalar.addi c0_i32_413 v449
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_414 : BitVec 32 := 1#32
  let v451 : BitVec 32 := Scalar.muli v6 c1_i32_414
  let v452 : BitVec 32 := Scalar.addi v450 v451
  v452.toNat
def k0_dev11 (d0 : Dev nD) : Nat :=
  let c0_i32_484 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_483 : BitVec 32 := 2#32
  let v530 : BitVec 32 := Scalar.muli v7 c2_i32_483
  let v531 : BitVec 32 := Scalar.addi c0_i32_484 v530
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_485 : BitVec 32 := 1#32
  let v532 : BitVec 32 := Scalar.muli v5 c1_i32_485
  let v533 : BitVec 32 := Scalar.addi v531 v532
  v533.toNat
def k0_dev12 (d0 : Dev nD) : Nat :=
  let c0_i32_544 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_543 : BitVec 32 := 2#32
  let v588 : BitVec 32 := Scalar.muli v2 c2_i32_543
  let v589 : BitVec 32 := Scalar.addi c0_i32_544 v588
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_545 : BitVec 32 := 1#32
  let v590 : BitVec 32 := Scalar.muli v6 c1_i32_545
  let v591 : BitVec 32 := Scalar.addi v589 v590
  v591.toNat
def k0_dev13 (d0 : Dev nD) : Nat :=
  let c0_i32_616 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_615 : BitVec 32 := 2#32
  let v669 : BitVec 32 := Scalar.muli v7 c2_i32_615
  let v670 : BitVec 32 := Scalar.addi c0_i32_616 v669
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_617 : BitVec 32 := 1#32
  let v671 : BitVec 32 := Scalar.muli v5 c1_i32_617
  let v672 : BitVec 32 := Scalar.addi v670 v671
  v672.toNat
def k0_dev14 (d0 : Dev nD) : Nat :=
  let c0_i32_676 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_675 : BitVec 32 := 2#32
  let v727 : BitVec 32 := Scalar.muli v2 c2_i32_675
  let v728 : BitVec 32 := Scalar.addi c0_i32_676 v727
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_677 : BitVec 32 := 1#32
  let v729 : BitVec 32 := Scalar.muli v6 c1_i32_677
  let v730 : BitVec 32 := Scalar.addi v728 v729
  v730.toNat
def k0_dev15 (d0 : Dev nD) : Nat :=
  let c0_i32_748 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_747 : BitVec 32 := 2#32
  let v808 : BitVec 32 := Scalar.muli v7 c2_i32_747
  let v809 : BitVec 32 := Scalar.addi c0_i32_748 v808
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_749 : BitVec 32 := 1#32
  let v810 : BitVec 32 := Scalar.muli v5 c1_i32_749
  let v811 : BitVec 32 := Scalar.addi v809 v810
  v811.toNat
def k0_dev16 (d0 : Dev nD) : Nat :=
  let c0_i32_808 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_807 : BitVec 32 := 2#32
  let v866 : BitVec 32 := Scalar.muli v2 c2_i32_807
  let v867 : BitVec 32 := Scalar.addi c0_i32_808 v866
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_809 : BitVec 32 := 1#32
  let v868 : BitVec 32 := Scalar.muli v6 c1_i32_809
  let v869 : BitVec 32 := Scalar.addi v867 v868
  v869.toNat
def k0_dev17 (d0 : Dev nD) : Nat :=
  let c0_i32_880 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_879 : BitVec 32 := 2#32
  let v947 : BitVec 32 := Scalar.muli v7 c2_i32_879
  let v948 : BitVec 32 := Scalar.addi c0_i32_880 v947
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_881 : BitVec 32 := 1#32
  let v949 : BitVec 32 := Scalar.muli v5 c1_i32_881
  let v950 : BitVec 32 := Scalar.addi v948 v949
  v950.toNat
def k0_dev18 (d0 : Dev nD) : Nat :=
  let c0_i32_940 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_939 : BitVec 32 := 2#32
  let v1005 : BitVec 32 := Scalar.muli v2 c2_i32_939
  let v1006 : BitVec 32 := Scalar.addi c0_i32_940 v1005
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_941 : BitVec 32 := 1#32
  let v1007 : BitVec 32 := Scalar.muli v6 c1_i32_941
  let v1008 : BitVec 32 := Scalar.addi v1006 v1007
  v1008.toNat
def k0_dev19 (d0 : Dev nD) : Nat :=
  let c0_i32_1012 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1011 : BitVec 32 := 2#32
  let v1086 : BitVec 32 := Scalar.muli v7 c2_i32_1011
  let v1087 : BitVec 32 := Scalar.addi c0_i32_1012 v1086
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1013 : BitVec 32 := 1#32
  let v1088 : BitVec 32 := Scalar.muli v5 c1_i32_1013
  let v1089 : BitVec 32 := Scalar.addi v1087 v1088
  v1089.toNat
def k0_dev20 (d0 : Dev nD) : Nat :=
  let c0_i32_1072 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1071 : BitVec 32 := 2#32
  let v1144 : BitVec 32 := Scalar.muli v2 c2_i32_1071
  let v1145 : BitVec 32 := Scalar.addi c0_i32_1072 v1144
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1073 : BitVec 32 := 1#32
  let v1146 : BitVec 32 := Scalar.muli v6 c1_i32_1073
  let v1147 : BitVec 32 := Scalar.addi v1145 v1146
  v1147.toNat
def k0_dev21 (d0 : Dev nD) : Nat :=
  let c0_i32_1144 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1143 : BitVec 32 := 2#32
  let v1225 : BitVec 32 := Scalar.muli v7 c2_i32_1143
  let v1226 : BitVec 32 := Scalar.addi c0_i32_1144 v1225
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1145 : BitVec 32 := 1#32
  let v1227 : BitVec 32 := Scalar.muli v5 c1_i32_1145
  let v1228 : BitVec 32 := Scalar.addi v1226 v1227
  v1228.toNat
def k0_dev22 (d0 : Dev nD) : Nat :=
  let c0_i32_1204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1203 : BitVec 32 := 2#32
  let v1283 : BitVec 32 := Scalar.muli v2 c2_i32_1203
  let v1284 : BitVec 32 := Scalar.addi c0_i32_1204 v1283
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1205 : BitVec 32 := 1#32
  let v1285 : BitVec 32 := Scalar.muli v6 c1_i32_1205
  let v1286 : BitVec 32 := Scalar.addi v1284 v1285
  v1286.toNat
def k0_dev23 (d0 : Dev nD) : Nat :=
  let c0_i32_1276 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1275 : BitVec 32 := 2#32
  let v1364 : BitVec 32 := Scalar.muli v7 c2_i32_1275
  let v1365 : BitVec 32 := Scalar.addi c0_i32_1276 v1364
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1277 : BitVec 32 := 1#32
  let v1366 : BitVec 32 := Scalar.muli v5 c1_i32_1277
  let v1367 : BitVec 32 := Scalar.addi v1365 v1366
  v1367.toNat
def k0_dev24 (d0 : Dev nD) : Nat :=
  let c0_i32_1336 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1335 : BitVec 32 := 2#32
  let v1422 : BitVec 32 := Scalar.muli v2 c2_i32_1335
  let v1423 : BitVec 32 := Scalar.addi c0_i32_1336 v1422
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1337 : BitVec 32 := 1#32
  let v1424 : BitVec 32 := Scalar.muli v6 c1_i32_1337
  let v1425 : BitVec 32 := Scalar.addi v1423 v1424
  v1425.toNat
def k0_dev25 (d0 : Dev nD) : Nat :=
  let c0_i32_1408 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1407 : BitVec 32 := 2#32
  let v1503 : BitVec 32 := Scalar.muli v7 c2_i32_1407
  let v1504 : BitVec 32 := Scalar.addi c0_i32_1408 v1503
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1409 : BitVec 32 := 1#32
  let v1505 : BitVec 32 := Scalar.muli v5 c1_i32_1409
  let v1506 : BitVec 32 := Scalar.addi v1504 v1505
  v1506.toNat
def k0_dev26 (d0 : Dev nD) : Nat :=
  let c0_i32_1468 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1467 : BitVec 32 := 2#32
  let v1561 : BitVec 32 := Scalar.muli v2 c2_i32_1467
  let v1562 : BitVec 32 := Scalar.addi c0_i32_1468 v1561
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1469 : BitVec 32 := 1#32
  let v1563 : BitVec 32 := Scalar.muli v6 c1_i32_1469
  let v1564 : BitVec 32 := Scalar.addi v1562 v1563
  v1564.toNat
def k0_dev27 (d0 : Dev nD) : Nat :=
  let c0_i32_1540 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1539 : BitVec 32 := 2#32
  let v1642 : BitVec 32 := Scalar.muli v7 c2_i32_1539
  let v1643 : BitVec 32 := Scalar.addi c0_i32_1540 v1642
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1541 : BitVec 32 := 1#32
  let v1644 : BitVec 32 := Scalar.muli v5 c1_i32_1541
  let v1645 : BitVec 32 := Scalar.addi v1643 v1644
  v1645.toNat
def k0_dev28 (d0 : Dev nD) : Nat :=
  let c0_i32_1600 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1599 : BitVec 32 := 2#32
  let v1700 : BitVec 32 := Scalar.muli v2 c2_i32_1599
  let v1701 : BitVec 32 := Scalar.addi c0_i32_1600 v1700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1601 : BitVec 32 := 1#32
  let v1702 : BitVec 32 := Scalar.muli v6 c1_i32_1601
  let v1703 : BitVec 32 := Scalar.addi v1701 v1702
  v1703.toNat
def k0_dev29 (d0 : Dev nD) : Nat :=
  let c0_i32_1672 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1671 : BitVec 32 := 2#32
  let v1781 : BitVec 32 := Scalar.muli v7 c2_i32_1671
  let v1782 : BitVec 32 := Scalar.addi c0_i32_1672 v1781
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1673 : BitVec 32 := 1#32
  let v1783 : BitVec 32 := Scalar.muli v5 c1_i32_1673
  let v1784 : BitVec 32 := Scalar.addi v1782 v1783
  v1784.toNat
def k0_dev30 (d0 : Dev nD) : Nat :=
  let c0_i32_1732 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1731 : BitVec 32 := 2#32
  let v1839 : BitVec 32 := Scalar.muli v2 c2_i32_1731
  let v1840 : BitVec 32 := Scalar.addi c0_i32_1732 v1839
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1733 : BitVec 32 := 1#32
  let v1841 : BitVec 32 := Scalar.muli v6 c1_i32_1733
  let v1842 : BitVec 32 := Scalar.addi v1840 v1841
  v1842.toNat
def k0_dev31 (d0 : Dev nD) : Nat :=
  let c0_i32_1804 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1803 : BitVec 32 := 2#32
  let v1920 : BitVec 32 := Scalar.muli v7 c2_i32_1803
  let v1921 : BitVec 32 := Scalar.addi c0_i32_1804 v1920
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1805 : BitVec 32 := 1#32
  let v1922 : BitVec 32 := Scalar.muli v5 c1_i32_1805
  let v1923 : BitVec 32 := Scalar.addi v1921 v1922
  v1923.toNat
def k0_dev32 (d0 : Dev nD) : Nat :=
  let c0_i32_1864 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1863 : BitVec 32 := 2#32
  let v1978 : BitVec 32 := Scalar.muli v2 c2_i32_1863
  let v1979 : BitVec 32 := Scalar.addi c0_i32_1864 v1978
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1865 : BitVec 32 := 1#32
  let v1980 : BitVec 32 := Scalar.muli v6 c1_i32_1865
  let v1981 : BitVec 32 := Scalar.addi v1979 v1980
  v1981.toNat
def k0_dev33 (d0 : Dev nD) : Nat :=
  let c0_i32_1936 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1935 : BitVec 32 := 2#32
  let v2059 : BitVec 32 := Scalar.muli v7 c2_i32_1935
  let v2060 : BitVec 32 := Scalar.addi c0_i32_1936 v2059
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1937 : BitVec 32 := 1#32
  let v2061 : BitVec 32 := Scalar.muli v5 c1_i32_1937
  let v2062 : BitVec 32 := Scalar.addi v2060 v2061
  v2062.toNat
def k0_dev34 (d0 : Dev nD) : Nat :=
  let c0_i32_1996 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1995 : BitVec 32 := 2#32
  let v2117 : BitVec 32 := Scalar.muli v2 c2_i32_1995
  let v2118 : BitVec 32 := Scalar.addi c0_i32_1996 v2117
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1997 : BitVec 32 := 1#32
  let v2119 : BitVec 32 := Scalar.muli v6 c1_i32_1997
  let v2120 : BitVec 32 := Scalar.addi v2118 v2119
  v2120.toNat
def k0_dev35 (d0 : Dev nD) : Nat :=
  let c0_i32_2068 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2067 : BitVec 32 := 2#32
  let v2198 : BitVec 32 := Scalar.muli v7 c2_i32_2067
  let v2199 : BitVec 32 := Scalar.addi c0_i32_2068 v2198
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2069 : BitVec 32 := 1#32
  let v2200 : BitVec 32 := Scalar.muli v5 c1_i32_2069
  let v2201 : BitVec 32 := Scalar.addi v2199 v2200
  v2201.toNat
def k0_dev36 (d0 : Dev nD) : Nat :=
  let c0_i32_2128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2127 : BitVec 32 := 2#32
  let v2256 : BitVec 32 := Scalar.muli v2 c2_i32_2127
  let v2257 : BitVec 32 := Scalar.addi c0_i32_2128 v2256
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2129 : BitVec 32 := 1#32
  let v2258 : BitVec 32 := Scalar.muli v6 c1_i32_2129
  let v2259 : BitVec 32 := Scalar.addi v2257 v2258
  v2259.toNat
def k0_dev37 (d0 : Dev nD) : Nat :=
  let c0_i32_2200 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2199 : BitVec 32 := 2#32
  let v2337 : BitVec 32 := Scalar.muli v7 c2_i32_2199
  let v2338 : BitVec 32 := Scalar.addi c0_i32_2200 v2337
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2201 : BitVec 32 := 1#32
  let v2339 : BitVec 32 := Scalar.muli v5 c1_i32_2201
  let v2340 : BitVec 32 := Scalar.addi v2338 v2339
  v2340.toNat
def k0_dev38 (d0 : Dev nD) : Nat :=
  let c0_i32_2260 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2259 : BitVec 32 := 2#32
  let v2395 : BitVec 32 := Scalar.muli v2 c2_i32_2259
  let v2396 : BitVec 32 := Scalar.addi c0_i32_2260 v2395
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2261 : BitVec 32 := 1#32
  let v2397 : BitVec 32 := Scalar.muli v6 c1_i32_2261
  let v2398 : BitVec 32 := Scalar.addi v2396 v2397
  v2398.toNat
def k0_dev39 (d0 : Dev nD) : Nat :=
  let c0_i32_2332 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2331 : BitVec 32 := 2#32
  let v2476 : BitVec 32 := Scalar.muli v7 c2_i32_2331
  let v2477 : BitVec 32 := Scalar.addi c0_i32_2332 v2476
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2333 : BitVec 32 := 1#32
  let v2478 : BitVec 32 := Scalar.muli v5 c1_i32_2333
  let v2479 : BitVec 32 := Scalar.addi v2477 v2478
  v2479.toNat
def k0_dev40 (d0 : Dev nD) : Nat :=
  let c0_i32_2392 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2391 : BitVec 32 := 2#32
  let v2534 : BitVec 32 := Scalar.muli v2 c2_i32_2391
  let v2535 : BitVec 32 := Scalar.addi c0_i32_2392 v2534
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2393 : BitVec 32 := 1#32
  let v2536 : BitVec 32 := Scalar.muli v6 c1_i32_2393
  let v2537 : BitVec 32 := Scalar.addi v2535 v2536
  v2537.toNat
def k0_dev41 (d0 : Dev nD) : Nat :=
  let c0_i32_2464 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2463 : BitVec 32 := 2#32
  let v2615 : BitVec 32 := Scalar.muli v7 c2_i32_2463
  let v2616 : BitVec 32 := Scalar.addi c0_i32_2464 v2615
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2465 : BitVec 32 := 1#32
  let v2617 : BitVec 32 := Scalar.muli v5 c1_i32_2465
  let v2618 : BitVec 32 := Scalar.addi v2616 v2617
  v2618.toNat
def k0_dev42 (d0 : Dev nD) : Nat :=
  let c0_i32_2524 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2523 : BitVec 32 := 2#32
  let v2673 : BitVec 32 := Scalar.muli v2 c2_i32_2523
  let v2674 : BitVec 32 := Scalar.addi c0_i32_2524 v2673
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2525 : BitVec 32 := 1#32
  let v2675 : BitVec 32 := Scalar.muli v6 c1_i32_2525
  let v2676 : BitVec 32 := Scalar.addi v2674 v2675
  v2676.toNat
def k0_dev43 (d0 : Dev nD) : Nat :=
  let c0_i32_2596 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2595 : BitVec 32 := 2#32
  let v2754 : BitVec 32 := Scalar.muli v7 c2_i32_2595
  let v2755 : BitVec 32 := Scalar.addi c0_i32_2596 v2754
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2597 : BitVec 32 := 1#32
  let v2756 : BitVec 32 := Scalar.muli v5 c1_i32_2597
  let v2757 : BitVec 32 := Scalar.addi v2755 v2756
  v2757.toNat
def k0_dev44 (d0 : Dev nD) : Nat :=
  let c0_i32_2656 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2655 : BitVec 32 := 2#32
  let v2812 : BitVec 32 := Scalar.muli v2 c2_i32_2655
  let v2813 : BitVec 32 := Scalar.addi c0_i32_2656 v2812
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2657 : BitVec 32 := 1#32
  let v2814 : BitVec 32 := Scalar.muli v6 c1_i32_2657
  let v2815 : BitVec 32 := Scalar.addi v2813 v2814
  v2815.toNat
def k0_dev45 (d0 : Dev nD) : Nat :=
  let c0_i32_2728 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2727 : BitVec 32 := 2#32
  let v2893 : BitVec 32 := Scalar.muli v7 c2_i32_2727
  let v2894 : BitVec 32 := Scalar.addi c0_i32_2728 v2893
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2729 : BitVec 32 := 1#32
  let v2895 : BitVec 32 := Scalar.muli v5 c1_i32_2729
  let v2896 : BitVec 32 := Scalar.addi v2894 v2895
  v2896.toNat
def k0_dev46 (d0 : Dev nD) : Nat :=
  let c0_i32_2788 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2787 : BitVec 32 := 2#32
  let v2951 : BitVec 32 := Scalar.muli v2 c2_i32_2787
  let v2952 : BitVec 32 := Scalar.addi c0_i32_2788 v2951
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2789 : BitVec 32 := 1#32
  let v2953 : BitVec 32 := Scalar.muli v6 c1_i32_2789
  let v2954 : BitVec 32 := Scalar.addi v2952 v2953
  v2954.toNat
def k0_dev47 (d0 : Dev nD) : Nat :=
  let c0_i32_2860 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2859 : BitVec 32 := 2#32
  let v3032 : BitVec 32 := Scalar.muli v7 c2_i32_2859
  let v3033 : BitVec 32 := Scalar.addi c0_i32_2860 v3032
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2861 : BitVec 32 := 1#32
  let v3034 : BitVec 32 := Scalar.muli v5 c1_i32_2861
  let v3035 : BitVec 32 := Scalar.addi v3033 v3034
  v3035.toNat
def k0_dev48 (d0 : Dev nD) : Nat :=
  let c0_i32_2920 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2919 : BitVec 32 := 2#32
  let v3090 : BitVec 32 := Scalar.muli v2 c2_i32_2919
  let v3091 : BitVec 32 := Scalar.addi c0_i32_2920 v3090
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2921 : BitVec 32 := 1#32
  let v3092 : BitVec 32 := Scalar.muli v6 c1_i32_2921
  let v3093 : BitVec 32 := Scalar.addi v3091 v3092
  v3093.toNat
def k0_dev49 (d0 : Dev nD) : Nat :=
  let c0_i32_2992 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2991 : BitVec 32 := 2#32
  let v3171 : BitVec 32 := Scalar.muli v7 c2_i32_2991
  let v3172 : BitVec 32 := Scalar.addi c0_i32_2992 v3171
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2993 : BitVec 32 := 1#32
  let v3173 : BitVec 32 := Scalar.muli v5 c1_i32_2993
  let v3174 : BitVec 32 := Scalar.addi v3172 v3173
  v3174.toNat
def k0_dev50 (d0 : Dev nD) : Nat :=
  let c0_i32_3052 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3051 : BitVec 32 := 2#32
  let v3229 : BitVec 32 := Scalar.muli v2 c2_i32_3051
  let v3230 : BitVec 32 := Scalar.addi c0_i32_3052 v3229
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3053 : BitVec 32 := 1#32
  let v3231 : BitVec 32 := Scalar.muli v6 c1_i32_3053
  let v3232 : BitVec 32 := Scalar.addi v3230 v3231
  v3232.toNat
def k0_dev51 (d0 : Dev nD) : Nat :=
  let c0_i32_3124 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3123 : BitVec 32 := 2#32
  let v3310 : BitVec 32 := Scalar.muli v7 c2_i32_3123
  let v3311 : BitVec 32 := Scalar.addi c0_i32_3124 v3310
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3125 : BitVec 32 := 1#32
  let v3312 : BitVec 32 := Scalar.muli v5 c1_i32_3125
  let v3313 : BitVec 32 := Scalar.addi v3311 v3312
  v3313.toNat
def k0_dev52 (d0 : Dev nD) : Nat :=
  let c0_i32_3184 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3183 : BitVec 32 := 2#32
  let v3368 : BitVec 32 := Scalar.muli v2 c2_i32_3183
  let v3369 : BitVec 32 := Scalar.addi c0_i32_3184 v3368
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3185 : BitVec 32 := 1#32
  let v3370 : BitVec 32 := Scalar.muli v6 c1_i32_3185
  let v3371 : BitVec 32 := Scalar.addi v3369 v3370
  v3371.toNat
def k0_dev53 (d0 : Dev nD) : Nat :=
  let c0_i32_3256 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3255 : BitVec 32 := 2#32
  let v3449 : BitVec 32 := Scalar.muli v7 c2_i32_3255
  let v3450 : BitVec 32 := Scalar.addi c0_i32_3256 v3449
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3257 : BitVec 32 := 1#32
  let v3451 : BitVec 32 := Scalar.muli v5 c1_i32_3257
  let v3452 : BitVec 32 := Scalar.addi v3450 v3451
  v3452.toNat
def k0_dev54 (d0 : Dev nD) : Nat :=
  let c0_i32_3316 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3315 : BitVec 32 := 2#32
  let v3507 : BitVec 32 := Scalar.muli v2 c2_i32_3315
  let v3508 : BitVec 32 := Scalar.addi c0_i32_3316 v3507
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3317 : BitVec 32 := 1#32
  let v3509 : BitVec 32 := Scalar.muli v6 c1_i32_3317
  let v3510 : BitVec 32 := Scalar.addi v3508 v3509
  v3510.toNat
def k0_dev55 (d0 : Dev nD) : Nat :=
  let c0_i32_3388 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3387 : BitVec 32 := 2#32
  let v3588 : BitVec 32 := Scalar.muli v7 c2_i32_3387
  let v3589 : BitVec 32 := Scalar.addi c0_i32_3388 v3588
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3389 : BitVec 32 := 1#32
  let v3590 : BitVec 32 := Scalar.muli v5 c1_i32_3389
  let v3591 : BitVec 32 := Scalar.addi v3589 v3590
  v3591.toNat
def k0_dev56 (d0 : Dev nD) : Nat :=
  let c0_i32_3448 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3447 : BitVec 32 := 2#32
  let v3646 : BitVec 32 := Scalar.muli v2 c2_i32_3447
  let v3647 : BitVec 32 := Scalar.addi c0_i32_3448 v3646
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3449 : BitVec 32 := 1#32
  let v3648 : BitVec 32 := Scalar.muli v6 c1_i32_3449
  let v3649 : BitVec 32 := Scalar.addi v3647 v3648
  v3649.toNat
def k0_dev57 (d0 : Dev nD) : Nat :=
  let c0_i32_3520 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3519 : BitVec 32 := 2#32
  let v3727 : BitVec 32 := Scalar.muli v7 c2_i32_3519
  let v3728 : BitVec 32 := Scalar.addi c0_i32_3520 v3727
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3521 : BitVec 32 := 1#32
  let v3729 : BitVec 32 := Scalar.muli v5 c1_i32_3521
  let v3730 : BitVec 32 := Scalar.addi v3728 v3729
  v3730.toNat
def k0_dev58 (d0 : Dev nD) : Nat :=
  let c0_i32_3580 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3579 : BitVec 32 := 2#32
  let v3785 : BitVec 32 := Scalar.muli v2 c2_i32_3579
  let v3786 : BitVec 32 := Scalar.addi c0_i32_3580 v3785
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3581 : BitVec 32 := 1#32
  let v3787 : BitVec 32 := Scalar.muli v6 c1_i32_3581
  let v3788 : BitVec 32 := Scalar.addi v3786 v3787
  v3788.toNat
def k0_dev59 (d0 : Dev nD) : Nat :=
  let c0_i32_3652 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3651 : BitVec 32 := 2#32
  let v3866 : BitVec 32 := Scalar.muli v7 c2_i32_3651
  let v3867 : BitVec 32 := Scalar.addi c0_i32_3652 v3866
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3653 : BitVec 32 := 1#32
  let v3868 : BitVec 32 := Scalar.muli v5 c1_i32_3653
  let v3869 : BitVec 32 := Scalar.addi v3867 v3868
  v3869.toNat
def k0_dev60 (d0 : Dev nD) : Nat :=
  let c0_i32_3712 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3711 : BitVec 32 := 2#32
  let v3924 : BitVec 32 := Scalar.muli v2 c2_i32_3711
  let v3925 : BitVec 32 := Scalar.addi c0_i32_3712 v3924
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3713 : BitVec 32 := 1#32
  let v3926 : BitVec 32 := Scalar.muli v6 c1_i32_3713
  let v3927 : BitVec 32 := Scalar.addi v3925 v3926
  v3927.toNat
def k0_dev61 (d0 : Dev nD) : Nat :=
  let c0_i32_3784 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3783 : BitVec 32 := 2#32
  let v4005 : BitVec 32 := Scalar.muli v7 c2_i32_3783
  let v4006 : BitVec 32 := Scalar.addi c0_i32_3784 v4005
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3785 : BitVec 32 := 1#32
  let v4007 : BitVec 32 := Scalar.muli v5 c1_i32_3785
  let v4008 : BitVec 32 := Scalar.addi v4006 v4007
  v4008.toNat
def k0_dev62 (d0 : Dev nD) : Nat :=
  let c0_i32_3844 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3843 : BitVec 32 := 2#32
  let v4063 : BitVec 32 := Scalar.muli v2 c2_i32_3843
  let v4064 : BitVec 32 := Scalar.addi c0_i32_3844 v4063
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3845 : BitVec 32 := 1#32
  let v4065 : BitVec 32 := Scalar.muli v6 c1_i32_3845
  let v4066 : BitVec 32 := Scalar.addi v4064 v4065
  v4066.toNat
def k0_dev63 (d0 : Dev nD) : Nat :=
  let c0_i32_3916 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3915 : BitVec 32 := 2#32
  let v4144 : BitVec 32 := Scalar.muli v7 c2_i32_3915
  let v4145 : BitVec 32 := Scalar.addi c0_i32_3916 v4144
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3917 : BitVec 32 := 1#32
  let v4146 : BitVec 32 := Scalar.muli v5 c1_i32_3917
  let v4147 : BitVec 32 := Scalar.addi v4145 v4146
  v4147.toNat
def k0_dev64 (d0 : Dev nD) : Nat :=
  let c0_i32_3976 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3975 : BitVec 32 := 2#32
  let v4202 : BitVec 32 := Scalar.muli v2 c2_i32_3975
  let v4203 : BitVec 32 := Scalar.addi c0_i32_3976 v4202
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3977 : BitVec 32 := 1#32
  let v4204 : BitVec 32 := Scalar.muli v6 c1_i32_3977
  let v4205 : BitVec 32 := Scalar.addi v4203 v4204
  v4205.toNat
def k0_dev65 (d0 : Dev nD) : Nat :=
  let c0_i32_4048 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4047 : BitVec 32 := 2#32
  let v4283 : BitVec 32 := Scalar.muli v7 c2_i32_4047
  let v4284 : BitVec 32 := Scalar.addi c0_i32_4048 v4283
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4049 : BitVec 32 := 1#32
  let v4285 : BitVec 32 := Scalar.muli v5 c1_i32_4049
  let v4286 : BitVec 32 := Scalar.addi v4284 v4285
  v4286.toNat
def k0_dev66 (d0 : Dev nD) : Nat :=
  let c0_i32_4137 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4136 : BitVec 32 := 2#32
  let v4380 : BitVec 32 := Scalar.muli v7 c2_i32_4136
  let v4381 : BitVec 32 := Scalar.addi c0_i32_4137 v4380
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4138 : BitVec 32 := 1#32
  let v4382 : BitVec 32 := Scalar.muli v5 c1_i32_4138
  let v4383 : BitVec 32 := Scalar.addi v4381 v4382
  v4383.toNat
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x2048 : Shape := ⟨3, ![2, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.PiecesIdeal.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

/-!
The kernel body as a loop.  The printed body is 32 unrolled chunk iterations between a prologue and an
epilogue.  Here the same operations are named once, with the chunk number a parameter, and the printed body is shown
to be the loop over them.
-/

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## Slots, chunks, devices -/

/-- The chunk a number names. -/
def ch (i : ℕ) : Fin 32 := ⟨i % 32, Nat.mod_lt _ (by decide)⟩
/-- The double-buffer slot of chunk `i`. -/
def par (i : ℕ) : Fin 2 := ⟨i % 2, Nat.mod_lt _ (by decide)⟩
/-- The landing slot of chunk `i`. -/
def quad (i : ℕ) : Fin 4 := ⟨i % 4, Nat.mod_lt _ (by decide)⟩

theorem inb2 (s : Fin 2) : ∀ a, (![s.val, 0, 0] : Fin 3 → Nat) a + S1x128x2048.size a ≤ S2x128x2048.size a := by
  fin_cases s
  · exact inb_S2x128x2048_S1x128x2048_0_0_0
  · exact inb_S2x128x2048_S1x128x2048_1_0_0

theorem inb4 (s : Fin 4) : ∀ a, (![s.val, 0, 0] : Fin 3 → Nat) a + S1x128x2048.size a ≤ S4x128x2048.size a := by
  fin_cases s
  · exact inb_S4x128x2048_S1x128x2048_0_0_0
  · exact inb_S4x128x2048_S1x128x2048_1_0_0
  · exact inb_S4x128x2048_S1x128x2048_2_0_0
  · exact inb_S4x128x2048_S1x128x2048_3_0_0

theorem inbS2 (s : Fin 2) : ∀ a, (![s.val] : Fin 1 → Nat) a + S1.size a ≤ S2.size a := by
  fin_cases s
  · exact inb_S2_S1_0
  · exact inb_S2_S1_1

theorem inbS4 (s : Fin 4) : ∀ a, (![s.val] : Fin 1 → Nat) a + S1.size a ≤ S4.size a := by
  fin_cases s
  · exact inb_S4_S1_0
  · exact inb_S4_S1_1
  · exact inb_S4_S1_2
  · exact inb_S4_S1_3

/-- Slot `s` of a two-slot buffer, and of a four-slot one, as a rectangle. -/
abbrev R2 (s : Fin 2) : Rect S2x128x2048 := Rect.unit (s := S2x128x2048) ![s.val, 0, 0] S1x128x2048.size (inb2 s)
abbrev R4 (s : Fin 4) : Rect S4x128x2048 := Rect.unit (s := S4x128x2048) ![s.val, 0, 0] S1x128x2048.size (inb4 s)

theorem words2 (s : Fin 2) : (R2 s).WholeWords (EltTy.packing .bf16) := by
  fin_cases s
  · exact wordsbf16_S2x128x2048_S1x128x2048_0_0_0
  · exact wordsbf16_S2x128x2048_S1x128x2048_1_0_0

theorem words4 (s : Fin 4) : (R4 s).WholeWords (EltTy.packing .bf16) := by
  fin_cases s
  · exact wordsbf16_S4x128x2048_S1x128x2048_0_0_0
  · exact wordsbf16_S4x128x2048_S1x128x2048_1_0_0
  · exact wordsbf16_S4x128x2048_S1x128x2048_2_0_0
  · exact wordsbf16_S4x128x2048_S1x128x2048_3_0_0

theorem packed2 (s : Fin 2) : (R2 s).PackedRows (EltTy.packing .bf16) := by
  fin_cases s
  · exact packedbf16_S2x128x2048_S1x128x2048_0_0_0
  · exact packedbf16_S2x128x2048_S1x128x2048_1_0_0

abbrev slot2 {e : EltTy} (b : Memref sig .tc .vmem S2x128x2048 e) (s : Fin 2) : Memref sig .tc .vmem S128x2048 e :=
  (b.slice (R2 s) (fun _ => rfl)).squeeze S128x2048 squeezes_S1x128x2048_S128x2048
abbrev slot4 {e : EltTy} (b : Memref sig .tc .vmem S4x128x2048 e) (s : Fin 4) : Memref sig .tc .vmem S128x2048 e :=
  (b.slice (R4 s) (fun _ => rfl)).squeeze S128x2048 squeezes_S1x128x2048_S128x2048

abbrev sem2 (b : DmaSems sig S2) (s : Fin 2) : DmaSem sig :=
  ((b.slice (Rect.unit (s := S2) ![s.val] S1.size (inbS2 s))).squeeze S_ squeezes_S1_S_).sem
abbrev sem4 (b : DmaSems sig S4) (s : Fin 4) : DmaSem sig :=
  ((b.slice (Rect.unit (s := S4) ![s.val] S1.size (inbS4 s))).squeeze S_ squeezes_S1_S_).sem

/-- The device across the `y` axis, and across the `x` axis. -/
abbrev ynbr (d : Dev nD) : Dev nD := ⟨k0_dev1 d, k0_dev1_lt d⟩
abbrev xnbr (d : Dev nD) : Dev nD := ⟨k0_dev2 d, k0_dev2_lt d⟩

abbrev barS : Sem sig := (SemArray.scalar (sig.barrier 0 rfl) : Sems sig S_).sem

/-! ## The buffers, chunk by chunk -/

abbrev own32 : Memref sig .tc .vmem S2x128x2048 .f32 := Memref.whole cc0_scratch0
abbrev resV : Memref sig .tc .vmem S2x128x2048 .f32 := Memref.whole cc0_scratch1
abbrev own16 : Memref sig .tc .vmem S2x128x2048 .bf16 := Memref.whole cc0_scratch2
abbrev recY : Memref sig .tc .vmem S4x128x2048 .bf16 := Memref.whole cc0_scratch3
abbrev outV : Memref sig .tc .vmem S128x2048 .f32 := Memref.whole cc0_scratch4
abbrev out16 : Memref sig .tc .vmem S2x128x2048 .bf16 := Memref.whole cc0_scratch5
abbrev recX : Memref sig .tc .vmem S4x128x2048 .bf16 := Memref.whole cc0_scratch6

/-- Chunk `i` of this half of the partial, of the residual and of the result, and of the other half of the result. -/
abbrev srcP (d : Dev nD) (i : ℕ) : Memref sig .tc .hbm S128x2048 .f32 :=
  ((Memref.whole main_arg0).slice (Rect.unit (s := S1x8192x2048) (k0_off1 d (BitVec.ofNat 32 (128 * (ch i).val))) S1x128x2048.size (k0_off1_inb d (ch i))) (fun _ => rfl)).squeeze S128x2048 squeezes_S1x128x2048_S128x2048
abbrev srcR (d : Dev nD) (i : ℕ) : Memref sig .tc .hbm S128x2048 .f32 :=
  (Memref.whole main_arg1).slice (Rect.unit (s := S8192x2048) (k0_off2 d (BitVec.ofNat 32 (128 * (ch i).val))) S128x2048.size (k0_off2_inb d (ch i))) (fun _ => rfl)
abbrev outOwn (d : Dev nD) (i : ℕ) : Memref sig .tc .hbm S128x2048 .bf16 :=
  (Memref.whole main_v1).slice (Rect.unit (s := S8192x2048) (k0_off2 d (BitVec.ofNat 32 (128 * (ch i).val))) S128x2048.size (k0_off2_inb d (ch i))) (fun _ => rfl)
abbrev outOth (d : Dev nD) (i : ℕ) : Memref sig .tc .hbm S128x2048 .bf16 :=
  (Memref.whole main_v1).slice (Rect.unit (s := S8192x2048) (k0_off3 d (BitVec.ofNat 32 (128 * (ch i).val))) S128x2048.size (k0_off3_inb d (ch i))) (fun _ => rfl)

/-! ## Whole words: the evidence the copies carry -/

theorem we2 {b : Memref sig .tc .vmem S2x128x2048 .bf16} (h : b.IsWhole) (s : Fin 2) : (slot2 b s).view.WordExact :=
  (h.wordExact_slice rfl _ (words2 s)).reshape _ _
theorem we4 {b : Memref sig .tc .vmem S4x128x2048 .bf16} (h : b.IsWhole) (s : Fin 4) : (slot4 b s).view.WordExact :=
  (h.wordExact_slice rfl _ (words4 s)).reshape _ _
theorem weOwn (d : Dev nD) (i : ℕ) : (outOwn d i).view.WordExact :=
  (Memref.isWhole_whole main_v1).wordExact_slice rfl _ (k0_off2_wordsbf16 d (ch i))
theorem weOth (d : Dev nD) (i : ℕ) : (outOth d i).view.WordExact :=
  (Memref.isWhole_whole main_v1).wordExact_slice rfl _ (k0_off3_wordsbf16 d (ch i))

/-! ## The operations of one chunk -/

/-- A program of the kernel. -/
abbrev K (F : FTy → Type) : Type → Type 1 := Prog (TpuEff nD τ sig (Elt F) Λ₀ .tc)

/-- Start loading chunk `i` of the partial. -/
def loadP (d : Dev nD) (i : ℕ) : K F PUnit :=
  Prog.lift (.enqueueDma (srcP d i) (.here (slot2 own32 (par i))) (.dma (sem2 cc0_scratch7 (par i))) ((View.wordExact_bits rfl).reshape _ _) ((View.wordExact_bits rfl).reshape _ _) ⟨Or.inl rfl, trivial⟩)
/-- Start loading chunk `i` of the residual. -/
def loadR (d : Dev nD) (i : ℕ) : K F PUnit :=
  Prog.lift (.enqueueDma (srcR d i) (.here (slot2 resV (par i))) (.dma (sem2 cc0_scratch8 (par i))) (View.wordExact_bits rfl) ((View.wordExact_bits rfl).reshape _ _) ⟨Or.inl rfl, trivial⟩)
/-- Wait for the loads. -/
def waitP (d : Dev nD) (i : ℕ) : K F PUnit :=
  Prog.lift (.waitDma2 (sem2 cc0_scratch7 (par i)) (srcP d i) (slot2 own32 (par i)) ((View.wordExact_bits rfl).reshape _ _) ((View.wordExact_bits rfl).reshape _ _))
def waitR (d : Dev nD) (i : ℕ) : K F PUnit :=
  Prog.lift (.waitDma2 (sem2 cc0_scratch8 (par i)) (srcR d i) (slot2 resV (par i)) (View.wordExact_bits rfl) ((View.wordExact_bits rfl).reshape _ _))
/-- Round chunk `i` of the partial into its send slot. -/
def castP (i : ℕ) : K F PUnit := do
  let v ← Prog.lift (.load own32 (R2 (par i)).toLoadRect (View.loadsAt_vmem h_S1x128x2048))
  let _ ← Prog.lift (.load own16 (R2 (par i)).toLoadRect (View.loadsAt_vmem h_S1x128x2048))
  Prog.lift (.store own16 (R2 (par i)) (k0_pay1 v) Finset.univ (View.stores_vmem h_S1x128x2048 ((Memref.isWhole_whole cc0_scratch2).storeExact_slice rfl _ (packed2 (par i))) (fun _ => rfl)) (.inl rfl))
/-- Send chunk `i` across the `y` axis; wait for it to have left; wait for the neighbour's. -/
def sendY (d : Dev nD) (i : ℕ) : K F PUnit :=
  Prog.lift (.enqueueDma (slot2 own16 (par i)) (.remote (Dev.tc (ynbr d)) (slot4 recY (quad i)) (.dma (sem2 cc0_scratch11 (par i)))) (.dma (sem4 cc0_scratch12 (quad i))) (we2 (Memref.isWhole_whole _) _) (we4 (Memref.isWhole_whole _) _) ⟨⟨rfl, Or.inl rfl⟩, trivial⟩)
def waitYS (i : ℕ) : K F PUnit :=
  Prog.lift (.waitDma2 (sem2 cc0_scratch11 (par i)) (slot4 recY (quad i)) (slot2 own16 (par i)) (we4 (Memref.isWhole_whole _) _) (we2 (Memref.isWhole_whole _) _))
def waitYR (i : ℕ) : K F PUnit :=
  Prog.lift (.waitDma2 (sem4 cc0_scratch12 (quad i)) (slot2 own16 (par i)) (slot4 recY (quad i)) (we2 (Memref.isWhole_whole _) _) (we4 (Memref.isWhole_whole _) _))
/-- Normalise chunk `i`. -/
def norm (gM : Memref sig .tc .vmem S2048 .f32) (i : ℕ) : K F PUnit := do
  let a ← Prog.lift (.load own32 (R2 (par i)).toLoadRect (View.loadsAt_vmem h_S1x128x2048))
  let b ← Prog.lift (.load recY (R4 (quad i)).toLoadRect (View.loadsAt_vmem h_S1x128x2048))
  let r ← Prog.lift (.load resV (R2 (par i)).toLoadRect (View.loadsAt_vmem h_S1x128x2048))
  let g ← Prog.lift (.load gM (Rect.unit (s := S2048) ![0] S2048.size inb_S2048_S2048_0).toLoadRect (View.loadsAt_vmem h_S2048))
  let _ ← Prog.lift (.load outV (Rect.unit (s := S128x2048) ![0, 0] S128x2048.size inb_S128x2048_S128x2048_0_0).toLoadRect (View.loadsAt_vmem h_S128x2048))
  Prog.lift (.store outV (Rect.unit (s := S128x2048) ![0, 0] S128x2048.size inb_S128x2048_S128x2048_0_0) (k0_pay4 (k0_pay3 a b) r g) Finset.univ (View.stores_vmem_bits_univ h_S128x2048 rfl) (.inl rfl))
/-- Round the normalised chunk `i` into its output slot. -/
def castO (i : ℕ) : K F PUnit := do
  let v ← Prog.lift (.load outV (Rect.unit (s := S128x2048) ![0, 0] S128x2048.size inb_S128x2048_S128x2048_0_0).toLoadRect (View.loadsAt_vmem h_S128x2048))
  let _ ← Prog.lift (.load out16 (R2 (par i)).toLoadRect (View.loadsAt_vmem h_S1x128x2048))
  Prog.lift (.store out16 (R2 (par i)) (k0_pay5 v) Finset.univ (View.stores_vmem h_S1x128x2048 ((Memref.isWhole_whole cc0_scratch5).storeExact_slice rfl _ (packed2 (par i))) (fun _ => rfl)) (.inl rfl))
/-- Start storing chunk `i` of this half of the result; wait for it. -/
def storeO (d : Dev nD) (i : ℕ) : K F PUnit :=
  Prog.lift (.enqueueDma (slot2 out16 (par i)) (.here (outOwn d i)) (.dma (sem2 cc0_scratch9 (par i))) (we2 (Memref.isWhole_whole _) _) (weOwn d i) ⟨Or.inl rfl, trivial⟩)
def waitO (d : Dev nD) (i : ℕ) : K F PUnit :=
  Prog.lift (.waitDma2 (sem2 cc0_scratch9 (par i)) (slot2 out16 (par i)) (outOwn d i) (we2 (Memref.isWhole_whole _) _) (weOwn d i))
/-- Send the result chunk `i` across the `x` axis; wait for it to have left; wait for the neighbour's. -/
def sendX (d : Dev nD) (i : ℕ) : K F PUnit :=
  Prog.lift (.enqueueDma (slot2 out16 (par i)) (.remote (Dev.tc (xnbr d)) (slot4 recX (quad i)) (.dma (sem2 cc0_scratch13 (par i)))) (.dma (sem4 cc0_scratch14 (quad i))) (we2 (Memref.isWhole_whole _) _) (we4 (Memref.isWhole_whole _) _) ⟨⟨rfl, Or.inl rfl⟩, trivial⟩)
def waitXS (i : ℕ) : K F PUnit :=
  Prog.lift (.waitDma2 (sem2 cc0_scratch13 (par i)) (slot4 recX (quad i)) (slot2 out16 (par i)) (we4 (Memref.isWhole_whole _) _) (we2 (Memref.isWhole_whole _) _))
def waitXR (i : ℕ) : K F PUnit :=
  Prog.lift (.waitDma2 (sem4 cc0_scratch14 (quad i)) (slot2 out16 (par i)) (slot4 recX (quad i)) (we2 (Memref.isWhole_whole _) _) (we4 (Memref.isWhole_whole _) _))
/-- Start storing chunk `i` of the other half of the result; wait for it. -/
def storeX (d : Dev nD) (i : ℕ) : K F PUnit :=
  Prog.lift (.enqueueDma (slot4 recX (quad i)) (.here (outOth d i)) (.dma (sem2 cc0_scratch10 (par i))) (we4 (Memref.isWhole_whole _) _) (weOth d i) ⟨Or.inl rfl, trivial⟩)
def waitX (d : Dev nD) (i : ℕ) : K F PUnit :=
  Prog.lift (.waitDma2 (sem2 cc0_scratch10 (par i)) (slot4 recX (quad i)) (outOth d i) (we4 (Memref.isWhole_whole _) _) (weOth d i))

/-! ## One chunk, in five steps -/

/-- Send the next chunk across the `y` axis. -/
def stepA (d : Dev nD) (i : ℕ) : K F PUnit :=
  if i + 1 < 32 then do
    waitP d (i + 1)
    if 1 ≤ i then waitYS (i - 1) else pure ⟨⟩
    castP (i + 1)
    sendY d (i + 1)
  else pure ⟨⟩
/-- Take in the neighbour's chunk and normalise. -/
def stepB (gM : Memref sig .tc .vmem S2048 .f32) (d : Dev nD) (i : ℕ) : K F PUnit := do
  waitYR i
  waitR d i
  norm gM i
/-- Store the chunk and send it across the `x` axis, once the slot is free. -/
def stepC (d : Dev nD) (i : ℕ) : K F PUnit := do
  if 2 ≤ i then do
    waitXS (i - 2)
    waitO d (i - 2)
    waitX d (i - 2)
  else pure ⟨⟩
  castO i
  storeO d i
  sendX d i
/-- Start the loads two chunks ahead. -/
def stepD (d : Dev nD) (i : ℕ) : K F PUnit :=
  if i + 2 < 32 then do
    loadP d (i + 2)
    loadR d (i + 2)
  else pure ⟨⟩
/-- Take in the neighbour's result chunk. -/
def takeX (d : Dev nD) (i : ℕ) : K F PUnit := do
  waitXR i
  storeX d i
def stepE (d : Dev nD) (i : ℕ) : K F PUnit :=
  if 1 ≤ i then takeX d (i - 1) else pure ⟨⟩

def iter (gM : Memref sig .tc .vmem S2048 .f32) (d : Dev nD) (i : ℕ) : K F PUnit := do
  stepA d i
  stepB gM d i
  stepC d i
  stepD d i
  stepE d i

/-- `n` iterations from chunk `i` on. -/
def loop (gM : Memref sig .tc .vmem S2048 .f32) (d : Dev nD) : ℕ → ℕ → K F PUnit
  | 0, _ => pure ⟨⟩
  | n + 1, i => do
    iter gM d i
    loop gM d n (i + 1)

/-- The handshake with both neighbours, the first loads, and the first chunk on its way. -/
def prologue (d : Dev nD) : K F PUnit := do
  semSignalWord (ynbr d) barS 1#32
  semSignalWord (xnbr d) barS 1#32
  semWaitWord barS 2#32
  loadP d 0
  loadR d 0
  loadP d 1
  loadR d 1
  waitP d 0
  castP 0
  sendY d 0

/-- Wait for chunk `i`'s transfers out. -/
def drain (d : Dev nD) (i : ℕ) : K F PUnit := do
  waitO d i
  waitX d i
  waitYS i
  waitXS i

def epilogue (d : Dev nD) : K F PUnit := do
  takeX d 31
  drain d 30
  drain d 31

/-- The kernel as a loop. -/
def whole (gM : Memref sig .tc .vmem S2048 .f32) : K F PUnit := do
  let d ← Prog.lift .deviceId
  prologue d
  loop gM d 32 0
  epilogue d

/-- The printed body is that loop. -/
theorem body_eq (t : Fin cfg0.N) : bodyAt0 (F := F) t = whole (win0_0.stage (cfg0.slots t 0)) := by
  chain_rfl

end Cert.KernelIdeal.Hand
-- ==== Proof.Rules.lean ====
module

public import Idealize.ShloMosaic.Lib.Transfers
public import Idealize.ShloMosaic.Lib.Rounds
public import Idealize.ShloMosaic.Lib.MemrefSat
public import Idealize.ShloMosaic.Lib.Pipeline.Kit
public import Idealize.ShloMosaic.Lib.Pipeline.Launch
public import Idealize.ShloMosaic.Lib.Pipeline.Value
public import Idealize.ShloMosaic.Lib.VecWindow
public import Idealize.ShloMosaic.Lib.Tactic

/-!
Rules for one operation at a time, stated over what a memref reads: a local copy, an addressed copy that pays a duty on
another core's cell, the waits, and loads and stores of a squeezed slot.
-/

@[expose] public section

noncomputable section

namespace Cert.Hand

open Idealize.ShloMosaic
open Idealize.SL
open Idealize.SL.BI (sProp Storable)
open scoped Idealize.SL.BI
open Idealize.SL.BI.BIBase Idealize.SL.BI.Laws Idealize.SL.Sem Idealize.SL.ProofMode
open Idealize.SL.RA
open Idealize.ShloMosaic.Rounds Idealize.ShloMosaic.Transfers

variable {nD : Nat} {τ : Topo} {sig : RefSig} {Ix : Type} [DecidableEq Ix]
variable {Val : EltTy → Type} {Name : Type} [DecidableEq Name] [Infinite Name]
variable {U : Type} [URA U] {Lvl : Type} [Preorder Lvl] {Λ : Labels}
local notation "𝕄" => MT nD τ sig Ix Val Name U Lvl

variable {defs : Defs nD τ sig Val Λ} (EC : UEmb Counters (MT nD τ sig Ix Val Name U Lvl))
variable (𝒱 : Variants) (c : Thread nD τ) (bd : Option 𝒱.V)
variable {sp sp' : Space} {s : Shape} {e : EltTy}
variable {α : Type} {Q : α → sProp (MT nD τ sig Ix Val Name U Lvl)}

/-- Core `c` owns the memref outright, whatever it reads. -/
def ownsAny {sp : Space} {s : Shape} {e : EltTy} (c : Thread nD τ) (m : Memref sig c.2.kind sp s e) : sProp 𝕄 :=
  iprop(∃ Y, owns c m fullShare Y)

instance {sp : Space} {s : Shape} {e : EltTy} (c : Thread nD τ) (m : Memref sig c.2.kind sp s e) :
    Storable (upEmb : UEmb _ 𝕄) (ownsAny c m : sProp 𝕄) := by
  unfold ownsAny; infer_instance

omit [Infinite Name] in
theorem ownsAny_intro (c : Thread nD τ) {sp : Space} {s : Shape} {e : EltTy} (m : Memref sig c.2.kind sp s e) (X : s.Idx → Val e) :
    (owns c m fullShare X : sProp 𝕄) ⊢ ownsAny c m := by
  unfold ownsAny; iintro H; iexists X; iexact H

omit [Infinite Name] [Preorder Lvl] in
/-- A memref's elements rewritten whole read what was written. -/
theorem owns_of_write (c : Thread nD τ) {sp : Space} {s : Shape} {e : EltTy} (m : Memref sig c.2.kind sp s e) (f : m.view.ty.Contents Val) (X : s.Idx → Val e) :
    (m.view.loc c ↦[m.view.set]{fullShare} (m.view.write Val f X Finset.univ) : sProp 𝕄) ⊢ owns c m fullShare X := by
  refine (owns_intro c m fullShare _).trans ?_
  rw [View.read_write_univ]

/-! ## Copies -/

/-- A local copy: its flight delivers the destination reading what the source reads, and the source's share. -/
theorem wp_copy [EC.LandsIn (upEmb : UEmb _ 𝕄)] {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X : s.Idx → Val e}
    (ι : Ix) (N : ℕ) (hN : dst.view.amount sm = N) (hN0 : 0 < N) :
    iprop(owns c src q X ∗ ownsAny c dst ∗ semVal (c, sm) 0)
      ⊢ iprop((Flight EC c sm ι N iprop(owns c dst fullShare X ∗ owns c src q X) -∗ wp frame (wpE defs 𝒱 c bd) Set.univ (k ⟨⟩) Q)
          -∗ wp frame (wpE defs 𝒱 c bd) Set.univ (.op (.enqueueDma src (.here dst) sm hsrc hdst hsem) k) Q) := by
  unfold ownsAny
  iintro ⟨Hs, ⟨%Y, Hd⟩, Hv⟩ Hk
  ihave Hs' := (show owns c src q X ⊢ iprop(∃ f, ⌜src.view.read Val f = X⌝ ∗ (src.view.loc c ↦[src.view.set]{q} f)) from .rfl) $$ Hs
  ihave Hd' := (show owns c dst fullShare Y ⊢ iprop(∃ f, ⌜dst.view.read Val f = Y⌝ ∗ (dst.view.loc c ↦[dst.view.set]{fullShare} f)) from .rfl) $$ Hd
  icases Hs' with ⟨%fs, %hfs, Hs⟩
  icases Hd' with ⟨%fd, -, Hd⟩
  iapply (wp_dmaLocal EC 𝒱 c bd ι N hN hN0 (Finset.Subset.refl _)) $$ [Hs Hd Hv]
  · isplitl [Hs]; · iexact Hs
    isplitl [Hd]; · iexact Hd
    iexact Hv
  iintro HF
  iapply Hk
  subst hfs
  iapply (Flight_mono EC c (sep_mono (owns_of_write c dst fd _) (owns_intro c src q fs)))
  iexact HF

omit [Infinite Name] in
/-- A credit update may deliver more than lands, when the payer puts the rest in. -/
theorem creditUpdate_with {g : GSem nD τ sig} {N n : ℕ} {R Z : sProp 𝕄} :
    iprop(creditUpdate g N n iprop(R ∗ Z) ∗ Z) ⊢ (creditUpdate g N n R : sProp 𝕄) := by
  rw [creditUpdate_def, creditUpdate_def]
  iintro ⟨⟨%B, HB, Hsteps, Hlast⟩, HZ⟩
  iexists B
  isplitl [HB]; · iexact HB
  isplitl [Hsteps]; · iexact Hsteps
  iintro %n' %k %hk ⟨HB, HR⟩
  iapply Hlast $$ %n' %k %hk
  isplitl [HB]; · iexact HB
  isplitl [HR] <;> iassumption

variable {D : Type} [DecidableEq D] (ER : Emb (URounds (GSem nD τ sig) D) (MT nD τ sig Ix Val Name U Lvl)) (Rd : Schedule (GSem nD τ sig) D (MT nD τ sig Ix Val Name U Lvl))

/-- An addressed copy: the destination is another core's.  It pays duty `dd` of round `r` of the destination's cell with the
    destination reading what the source reads and with `Z`; the source's share comes back with the flight on the
    sending cell. -/
theorem wp_sendPay [EC.LandsIn (upEmb : UEmb _ 𝕄)] [ER.LandsIn (upEmb : UEmb _ 𝕄)] [∀ g r d, Storable (upEmb : UEmb _ 𝕄) (Rd.payload g r d)] {c' : Thread nD τ} {src : Memref sig c.2.kind sp s e} {dst : Memref sig c'.2.kind sp' s e} {hsc : dst.view.ref.isScScratch = false}
    {sS sem : SemLoc sig} {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e}
    {κ : Name} {r : ℕ} {dd : D} {Z : sProp 𝕄} {W : Waits sig Ix}
    (ι ι' : Ix) {O₀ : CellTallies nD τ sig Ix} (O : CellTallies nD τ sig Ix) (N : ℕ) (hN : dst.view.amount sem = N) (hN0 : 0 < N)
    (hO : O₀ = O + tallyAt (c', sem) ι N) (hd : dd ∈ Rd.duties (c', sem) r) (ha : Rd.amount (c', sem) r dd = N)
    (hpay : iprop(owns c' dst fullShare X ∗ Z) ⊢ Rd.payload (c', sem) r dd) (hr : τ.routes c c' = true) :
    iprop(owns c src q X ∗ ownsAny c' dst ∗ semVal (c, sS) 0 ∗ owes c O₀ W ∗ cellInv ER Rd κ (c', sem) ∗ dutyTok ER (c', sem) r dd
        ∗ reached ER (c', sem) r ∗ Z)
      ⊢ iprop(((Flight EC c sS ι' N (owns c src q X) ∗ owes c O W) -∗ wp frame (wpE defs 𝒱 c bd) Set.univ (k ⟨⟩) Q)
          -∗ wp frame (wpE defs 𝒱 c bd) Set.univ (.op (.enqueueDma src (.remote c' dst sS hsc) sem hsrc hdst hsem) k) Q) := by
  unfold ownsAny
  iintro ⟨Hs, ⟨%Y, Hd⟩, Hv, HO, #Hi, Htok, #Hr, HZ⟩ Hk
  ihave Hs' := (show owns c src q X ⊢ iprop(∃ f, ⌜src.view.read Val f = X⌝ ∗ (src.view.loc c ↦[src.view.set]{q} f)) from .rfl) $$ Hs
  ihave Hd' := (show owns c' dst fullShare Y ⊢ iprop(∃ f, ⌜dst.view.read Val f = Y⌝ ∗ (dst.view.loc c' ↦[dst.view.set]{fullShare} f)) from .rfl) $$ Hd
  icases Hs' with ⟨%fs, %hfs, Hs⟩
  icases Hd' with ⟨%fd, -, Hd⟩
  subst hfs
  imod (flight_alloc EC hN0 (owns c src q (src.view.read Val fs)) (g := (c, sS))) $$ Hv with ⟨%γ, %δ, %κ', #Hinv, Hγ, Hδ⟩
  iapply (wp_enqueueDma_remote_pointsTo 𝒱 c bd Set.univ ι ι' O N hN hO hr) $$ [Hs Hd HO] [Hγ] [Htok HZ]
  · isplitl [Hs]; · iexact Hs
    isplitl [Hd]; · iexact Hd
    iexact HO
  · iapply (creditUpdate_anti (owns_intro c src q fs))
    iapply (flight_creditUpdate EC (δ := δ))
    isplitr; · iexact Hinv
    iexact Hγ
  · iapply (creditUpdate_with (Z := Z))
    isplitl [Htok]
    · rw [← ha]
      iapply (land_credit (d := dd) (r := r) ER Rd hd (κ := κ) ((sep_mono_left (owns_of_write c' dst fd _)).trans hpay))
      isplitr; · iexact Hi
      isplitl [Htok]; · iexact Htok
      iexact Hr
    · iexact HZ
  iintro ⟨Hc, HO⟩
  iapply Hk
  isplitl [Hc Hδ]
  · iapply (flight_intro EC c (κ := κ'))
    isplitr; · iexact Hinv
    isplitl [Hδ] <;> iassumption
  · iexact HO

/-! ## Waits -/

omit [Infinite Name] in
/-- Waiting for a copy the core started. -/
theorem wp_waitFlight [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N) {D : sProp 𝕄}
    {O : CellTallies nD τ sig Ix} {P : sProp 𝕄} (hP : P ⊢ MayWait c (.dma sem) ι O) :
    iprop(Flight EC c (.dma sem) ι N D ∗ (∃ W, owes c O W) ∗ P)
      ⊢ iprop((iprop(D ∗ semVal (c, .dma sem) 0 ∗ (∃ W, owes c O W)) -∗ wp frame (wpE defs 𝒱 c bd) Set.univ (k ⟨⟩) Q)
          -∗ wp frame (wpE defs 𝒱 c bd) Set.univ (.op (.waitDma2 sem srcw dstw hsrc hdst) k) Q) := by
  iintro ⟨HF, ⟨%W, HO⟩, HP⟩ Hk
  iapply (wp_waitLocalO EC 𝒱 c bd ι hN) $$ [HF HO HP]
  · isplitl [HF]; · iexact HF
    isplitl [HO]; · iexact HO
    iapply hP; iexact HP
  iintro ⟨HD, Hv, HO⟩
  iapply Hk
  isplitl [HD]; · iexact HD
  isplitl [Hv]; · iexact Hv
  iexists _; iexact HO

/-- Waiting for the whole of a round of one's own landing cell. -/
theorem wp_waitRound [ER.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N) {κ : Name} {R : ℕ}
    (hk : N = Rd.expect (c, .dma sem) R) {O : CellTallies nD τ sig Ix} {P : sProp 𝕄} (hP : P ⊢ MayWait c (.dma sem) ι O) :
    iprop(cellInv ER Rd κ (c, .dma sem) ∗ cred (tallyAt (c, .dma sem) ι N) ∗ (∃ W, owes c O W) ∗ P ∗ atPos ER (c, .dma sem) R ∅ 0)
      ⊢ iprop((iprop((∃ W, owes c O W) ∗ atPos ER (c, .dma sem) (R + 1) ∅ 0 ∗ reached ER (c, .dma sem) (R + 1)
            ∗ BI.bigSep (Rd.duties (c, .dma sem) R \ ∅) (fun d => Rd.payload (c, .dma sem) R d)) -∗ wp frame (wpE defs 𝒱 c bd) Set.univ (k ⟨⟩) Q)
          -∗ wp frame (wpE defs 𝒱 c bd) Set.univ (.op (.waitDma2 sem srcw dstw hsrc hdst) k) Q) := by
  subst hN
  iintro ⟨Hi, Hc, ⟨%W, HO⟩, HP, Hp⟩ Hk
  iapply (Rounds.wp_wait_rest_token 𝒱 ER Rd c bd (κ := κ) (wpE_waitDma2_eq 𝒱 c bd Set.univ) (Set.mem_univ _) ι
    (O := O) (W := W) (R := R) (m := 0) (T := ∅) ((Nat.zero_add _).trans hk)) $$ [Hi Hc Hp HO HP]
  · isplitl [Hi]; · iexact Hi
    isplitl [Hc]; · iexact Hc
    isplitl [HO]; · iexact HO
    isplitl [HP]; · iapply hP; iexact HP
    iexact Hp
  iintro ⟨HO, H⟩
  iapply Hk
  isplitl [HO]
  · iexists _; iexact HO
  iexact H

/-! ## Loads and stores of a squeezed slot -/

section Slot

variable {s' : Shape} {cs : CoreSpace} {m : Memref sig c.2.kind cs s e} {r : Rect s} {hr : ∀ a, r.stride a = 1} {hs : r.shape.Squeezes s'}

omit [Infinite Name] [Preorder Lvl] [DecidableEq Ix] [DecidableEq Name] [URA U] in
/-- What a slot reads is what the buffer reads on the slot's rectangle, reshaped. -/
theorem read_slot (f : m.view.ty.Contents Val) :
    ((m.slice r hr).squeeze s' hs).view.read Val f = shapeCast s' ((m.access r).read Val f) hs.numel_eq := rfl

omit [Infinite Name] in
theorem wp_loadSlot {hl : m.view.LoadsAt r.toLoadRect} {k : (r.shape.Idx → Val e) → Prog (TpuEff nD τ sig Val Λ c.2) α}
    {q : PosShare TreeShare} {X : s'.Idx → Val e} :
    (owns c ((m.slice r hr).squeeze s' hs) q X : sProp 𝕄)
      ⊢ iprop((owns c ((m.slice r hr).squeeze s' hs) q X -∗ wp frame (wpE defs 𝒱 c bd) Set.univ (k (shapeCast r.shape X hs.numel_eq.symm)) Q)
        -∗ wp frame (wpE defs 𝒱 c bd) Set.univ (.op (.load m r.toLoadRect hl) k) Q) := by
  iintro H Hk
  ihave H' := (show owns c ((m.slice r hr).squeeze s' hs) q X ⊢ iprop(∃ f, ⌜((m.slice r hr).squeeze s' hs).view.read Val f = X⌝ ∗ ((m.access r).loc c ↦[((m.slice r hr).squeeze s' hs).view.set]{q} f)) from .rfl) $$ H
  icases H' with ⟨%f, %hf, H⟩
  iapply (wp_load_rect 𝒱 c bd Set.univ (m := m) (r := r) (S := ((m.slice r hr).squeeze s' hs).view.set) (View.set_reshape (m.access r) hs.numel_eq).superset) $$ H
  iintro H
  have e1 : (m.access r).read Val f = shapeCast r.shape X hs.numel_eq.symm := by
    rw [← hf, read_slot]; exact (shapeCast_shapeCast _ _ _).symm
  rw [e1]
  iapply Hk
  rw [← hf]
  iapply (owns_intro c ((m.slice r hr).squeeze s' hs) q f)
  iexact H

omit [Infinite Name] in
theorem wp_storeSlot {w : r.shape.Idx → Val e} {hx : (m.access r).Stores Finset.univ} {hm : Finset.univ = Finset.univ ∨ ∀ a, r.stride a = 1}
    {k : PUnit → Prog (TpuEff nD τ sig Val Λ c.2) α} :
    (ownsAny c ((m.slice r hr).squeeze s' hs) : sProp 𝕄)
      ⊢ iprop((owns c ((m.slice r hr).squeeze s' hs) fullShare (shapeCast s' w hs.numel_eq) -∗ wp frame (wpE defs 𝒱 c bd) Set.univ (k ⟨⟩) Q)
        -∗ wp frame (wpE defs 𝒱 c bd) Set.univ (.op (.store m r w Finset.univ hx hm) k) Q) := by
  unfold ownsAny
  iintro ⟨%X, H⟩ Hk
  ihave H' := (show owns c ((m.slice r hr).squeeze s' hs) fullShare X ⊢ iprop(∃ f, ⌜((m.slice r hr).squeeze s' hs).view.read Val f = X⌝ ∗ ((m.access r).loc c ↦[((m.slice r hr).squeeze s' hs).view.set]{fullShare} f)) from .rfl) $$ H
  icases H' with ⟨%f, %hf, H⟩
  iapply (wp_store 𝒱 c bd Set.univ (m := m) (r := r) (w := w) (S := ((m.slice r hr).squeeze s' hs).view.set) (((m.access r).setOn_subset_set _).trans (View.set_reshape (m.access r) hs.numel_eq).superset)) $$ H
  iintro H
  iapply Hk
  have e1 : shapeCast s' w hs.numel_eq = ((m.slice r hr).squeeze s' hs).view.read Val ((m.access r).write Val f w Finset.univ) := by
    rw [read_slot, View.read_write_univ]
  rw [e1]
  iapply (owns_intro c ((m.slice r hr).squeeze s' hs) fullShare _)
  iexact H

end Slot

section Whole

variable {cs : CoreSpace} {m : Memref sig c.2.kind cs s e} {off : Fin s.rank → ℕ} {inb : ∀ a, off a + s.size a ≤ s.size a}

omit [Infinite Name] in
theorem wp_loadWhole {hl : m.view.LoadsAt (Rect.unit off s.size inb).toLoadRect} {k : (s.Idx → Val e) → Prog (TpuEff nD τ sig Val Λ c.2) α}
    {q : PosShare TreeShare} {X : s.Idx → Val e} :
    (owns c m q X : sProp 𝕄)
      ⊢ iprop((owns c m q X -∗ wp frame (wpE defs 𝒱 c bd) Set.univ (k X) Q)
        -∗ wp frame (wpE defs 𝒱 c bd) Set.univ (.op (.load m (Rect.unit off s.size inb).toLoadRect hl) k) Q) := by
  iintro H Hk
  ihave H' := (show owns c m q X ⊢ iprop(∃ f, ⌜m.view.read Val f = X⌝ ∗ (m.view.loc c ↦[m.view.set]{q} f)) from .rfl) $$ H
  icases H' with ⟨%f, %hf, H⟩
  iapply (wp_load 𝒱 c bd Set.univ (m := m) (r := (Rect.unit off s.size inb).toLoadRect) (S := m.view.set) (View.setOn_subset_set _ _)) $$ H
  iintro H
  have e1 : m.view.readAt Val (Rect.unit off s.size inb).toLoadRect f = X := by
    rw [← hf]; funext x; exact congrArg (m.view.read Val f) (Rect.emb_unit_full inb x)
  rw [e1]
  iapply Hk
  rw [← hf]
  iapply (owns_intro c m q f)
  iexact H

omit [Infinite Name] in
theorem wp_storeWhole {w : s.Idx → Val e} {hx : (m.access (Rect.unit off s.size inb)).Stores Finset.univ} {hm : Finset.univ = Finset.univ ∨ ∀ a, (Rect.unit off s.size inb).stride a = 1}
    {k : PUnit → Prog (TpuEff nD τ sig Val Λ c.2) α} :
    (ownsAny c m : sProp 𝕄)
      ⊢ iprop((owns c m fullShare w -∗ wp frame (wpE defs 𝒱 c bd) Set.univ (k ⟨⟩) Q)
        -∗ wp frame (wpE defs 𝒱 c bd) Set.univ (.op (.store m (Rect.unit off s.size inb) w Finset.univ hx hm) k) Q) := by
  unfold ownsAny
  iintro ⟨%X, H⟩ Hk
  ihave H' := (show owns c m fullShare X ⊢ iprop(∃ f, ⌜m.view.read Val f = X⌝ ∗ (m.view.loc c ↦[m.view.set]{fullShare} f)) from .rfl) $$ H
  icases H' with ⟨%f, %hf, H⟩
  iapply (wp_store 𝒱 c bd Set.univ (m := m) (r := Rect.unit off s.size inb) (w := w) (S := m.view.set) ((View.setOn_subset_set _ _).trans (View.set_slice_subset _ _))) $$ H
  iintro H
  iapply Hk
  have e1 : w = m.view.read Val ((m.access (Rect.unit off s.size inb)).write Val f w Finset.univ) := by
    funext x
    have := congrFun (View.read_write_univ (v := m.access (Rect.unit off s.size inb)) f w) x
    refine this.symm.trans ?_
    exact congrArg (m.view.read Val _) (Rect.emb_unit_full inb x)
  have e2 : (owns c m fullShare w : sProp 𝕄) = owns c m fullShare (m.view.read Val ((m.access (Rect.unit off s.size inb)).write Val f w Finset.univ)) := by
    rw [← e1]
  rw [e2]
  iapply (owns_intro c m fullShare _)
  iexact H

end Whole

end Cert.Hand
-- ==== Proof.ProtocolIdeal.lean ====
module

public import proofs.«01_k».proof.Proof.PiecesIdeal
public import proofs.«01_k».proof.Proof.Rules

/-!
The protocol between the devices.  Each device has nine cells that others pay into: the barrier, four landing cells for
the chunks that come across the `y` axis and four for those that come across the `x` axis.  Chunk `i` is round `i / 4` of
landing cell `i % 4`.  A landing pays its owner with the slot, filled, and with the right to send the chunk two further
on, whose slot the sender has emptied.
-/

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The resource algebra -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  ((Emb.inl : Emb UB (UB × Counters)).trans (Emb.inr : Emb (UB × Counters) UU)).trans
    (uEmb (nD := nD) (τ := τ) (sig := sig) (Ix := ℕ) (Val := Elt F) (Name := ℕ) (U := UU) (Lvl := ℕ)).toEmb
instance ER_landsIn : (ER (F := F)).LandsIn (upEmb : UEmb _ 𝕄) := by unfold ER; infer_instance
abbrev EC : UEmb Counters (MT nD τ sig ℕ (Elt F) ℕ UU ℕ) := countersEmb

abbrev 𝒱₀ : Variants := Variants.none

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The mesh -/

/-- The neighbour along an axis: `y` is `false`, `x` is `true`. -/
def nbr (a : Bool) (c : Dev nD) : Dev nD := match a with
  | false => ynbr c
  | true => xnbr c

theorem ynbr_ynbr (c : Dev nD) : ynbr (ynbr c) = c := by
  apply Fin.ext
  show k0_dev1 (ynbr c) = c.val
  rw [k0_dev1_eq]
  show 2 * (k0_dev1 c / 2) + 1 - k0_dev1 c % 2 = c.val
  rw [k0_dev1_eq]
  omega
theorem xnbr_xnbr (c : Dev nD) : xnbr (xnbr c) = c := by
  have hc : c.val < 4 := c.isLt
  apply Fin.ext
  show k0_dev2 (xnbr c) = c.val
  rw [k0_dev2_eq]
  show k0_dev2 c % 2 + 2 - 2 * (k0_dev2 c / 2) = c.val
  rw [k0_dev2_eq]
  omega
theorem nbr_nbr (a : Bool) (c : Dev nD) : nbr a (nbr a c) = c := by
  cases a
  · exact ynbr_ynbr c
  · exact xnbr_xnbr c

/-! ## The cells -/

abbrev Cell : Type := Option (Bool × Fin 4)

/-- The landing semaphores of an axis. -/
abbrev rsem (a : Bool) (s : Fin 4) : DmaSem sig := match a with
  | false => sem4 cc0_scratch12 s
  | true => sem4 cc0_scratch14 s
abbrev csem : Cell → SemLoc sig
  | none => .reg barS
  | some (a, s) => .dma (rsem a s)
theorem csem_injective : Function.Injective csem := by
  intro k k' h
  match k, k' with
  | none, none => rfl
  | none, some (a, s) => cases h
  | some (a, s), none => cases h
  | some (a, s), some (a', s') =>
    have h' : rsem a s = rsem a' s' := by injection h
    revert a s a' s'
    decide

abbrev kcell (ck : Dev nD × Cell) : GSem nD τ sig := ((ck.1 : Thread nD τ), csem ck.2)
abbrev barCell (c : Dev nD) : GSem nD τ sig := ((c : Thread nD τ), .reg barS)
/-- The cell chunk `i` lands on at device `c`, along axis `a`. -/
abbrev rcell (a : Bool) (c : Dev nD) (i : ℕ) : GSem nD τ sig := ((c : Thread nD τ), .dma (rsem a (quad i)))

/-- Which of its device's cells a semaphore is. -/
def kindOf (sm : SemLoc sig) : Option Cell := preimage? ⟨csem, csem_injective⟩ sm
theorem kindOf_bar : kindOf (.reg barS) = some none := preimage?_emb ⟨csem, csem_injective⟩ none
theorem kindOf_r (a : Bool) (s : Fin 4) : kindOf (.dma (rsem a s)) = some (some (a, s)) := preimage?_emb ⟨csem, csem_injective⟩ (some (a, s))
theorem kindOf_none {sm : SemLoc sig} (h : ∀ k, csem k ≠ sm) : kindOf sm = none := preimage?_eq_none h

theorem quad_add4 (i : ℕ) : quad (i + 4) = quad i := Fin.ext (by simp [quad])
theorem par_add2 (i : ℕ) : par (i + 2) = par i := Fin.ext (by simp [par])
theorem rcell_add4 (a : Bool) (c : Dev nD) (i : ℕ) : rcell a c (i + 4) = rcell a c i := by unfold rcell; rw [quad_add4]

/-- The credit of a chunk of `bf16`, and of one of `f32`. -/
abbrev N : ℕ := (slot4 recY 0).view.dmaCredit
abbrev N32 : ℕ := (slot2 own32 0).view.dmaCredit
theorem N_pos : 0 < N := View.dmaCredit_pos _ (by decide)
theorem N32_pos : 0 < N32 := View.dmaCredit_pos _ (by decide)

/-! ## Contents -/

/-- Chunk `i` of a device's partial, residual, and gamma. -/
def Pv (c : Dev nD) (i : ℕ) : Vec F S128x2048 .f32 := (srcP c i).view.read (Elt F) (m ((c : Thread nD τ).loc main_arg0))
def Rv (c : Dev nD) (i : ℕ) : Vec F S128x2048 .f32 := (srcR c i).view.read (Elt F) (m ((c : Thread nD τ).loc main_arg1))
def gv (c : Dev nD) : Vec F S2048 .f32 := m ((c : Thread nD τ).loc main_arg2)
/-- What is sent across the `y` axis. -/
def Yv (c : Dev nD) (i : ℕ) : Vec F S128x2048 .bf16 := truncf .bf16 (Pv m c i : FVec F S128x2048 .f32) bitsLt_bf16_f32
/-- The normalised chunk, and what is sent across the `x` axis. -/
def Ov (c : Dev nD) (i : ℕ) : FVec F S128x2048 .f32 :=
  k0_pay4 (k0_pay3 (shapeCast S1x128x2048 (Pv m c i) shapeCasts_S128x2048_S1x128x2048) (shapeCast S1x128x2048 (Yv m (ynbr c) i) shapeCasts_S128x2048_S1x128x2048))
    (shapeCast S1x128x2048 (Rv m c i) shapeCasts_S128x2048_S1x128x2048) (gv m c)
def Bv (c : Dev nD) (i : ℕ) : Vec F S128x2048 .bf16 := truncf .bf16 (Ov m c i) bitsLt_bf16_f32

/-- What a device sends along an axis. -/
def sent (a : Bool) (c : Dev nD) (i : ℕ) : Vec F S128x2048 .bf16 := match a with
  | false => Yv m c i
  | true => Bv m c i

/-- The landing slot of chunk `i`. -/
abbrev lslot (a : Bool) (i : ℕ) : Memref sig .tc .vmem S128x2048 .bf16 := match a with
  | false => slot4 recY (quad i)
  | true => slot4 recX (quad i)
theorem lslot_add4 (a : Bool) (i : ℕ) : lslot a (i + 4) = lslot a i := by cases a <;> simp only [lslot, quad_add4]

/-! ## The schedule -/

/-- Device `c`'s landing slot of chunk `i` is empty, and its cell has come to the round of that chunk. -/
def freed (a : Bool) (c : Dev nD) (i : ℕ) : sProp 𝕄 := iprop(ownsAny (c : Thread nD τ) (lslot a i) ∗ reached ER (rcell a c i) (i / 4))

/-- What goes along with chunk `i`: the right to send the chunk two further on back. -/
def along (a : Bool) (c : Dev nD) (i : ℕ) : sProp 𝕄 := if 2 ≤ i ∧ i < 30 then freed a c (i + 2) else iprop(emp)

/-- What chunk `i` brings device `c`. -/
def pay (a : Bool) (c : Dev nD) (i : ℕ) : sProp 𝕄 :=
  iprop(owns (c : Thread nD τ) (lslot a i) fullShare (sent m a (nbr a c) i) ∗ along a (nbr a c) i)

/-- What a neighbour's signal brings. -/
def barPay (a : Bool) (c : Dev nD) : sProp 𝕄 := bigSep (Finset.Ico 0 4) fun i => freed a (nbr a c) i

instance freed_storable (a : Bool) (c : Dev nD) (i : ℕ) : Storable (upEmb : UEmb _ 𝕄) (freed (F := F) a c i) := by unfold freed; infer_instance
instance pay_storable (a : Bool) (c : Dev nD) (i : ℕ) : Storable (upEmb : UEmb _ 𝕄) (pay m a c i) := by unfold pay along; split <;> infer_instance
instance barPay_storable (a : Bool) (c : Dev nD) : Storable (upEmb : UEmb _ 𝕄) (barPay (F := F) a c) := by unfold barPay; infer_instance

def kDuties (k : Option Cell) (r : ℕ) : Finset Bool := match k with
  | none => ∅
  | some none => if r = 0 then Finset.univ else ∅
  | some (some _) => if r < 8 then {false} else ∅
def kAmount (k : Option Cell) : ℕ := match k with
  | some none => 1
  | _ => N
def kPay (c : Dev nD) (k : Option Cell) (r : ℕ) (d : Bool) : sProp 𝕄 := match k with
  | none => iprop(emp)
  | some none => barPay d c
  | some (some (a, s)) => pay m a c (4 * r + s.val)

def sched : Schedule (GSem nD τ sig) Bool 𝕄 where
  duties g r := if g.1.2 = .tc then kDuties (kindOf g.2) r else ∅
  unitless _ := False
  amount g _ _ := kAmount (kindOf g.2)
  payload g r d := kPay m g.1.1 (kindOf g.2) r d
  amount_pos g _ _ _ := by
    unfold kAmount
    split
    · exact Nat.one_pos
    · exact N_pos

instance sched_storable (g : GSem nD τ sig) (r : ℕ) (d : Bool) : Storable (upEmb : UEmb _ 𝕄) ((sched m).payload g r d) := by
  show Storable upEmb (kPay m g.1.1 (kindOf g.2) r d)
  unfold kPay
  split <;> infer_instance

section Sched
variable (a : Bool) (c : Dev nD)

theorem duties_bar : (sched m).duties (barCell c) 0 = Finset.univ := by
  dsimp only [sched]; rw [if_pos rfl, kindOf_bar]; rfl
theorem duties_bar_later (r : ℕ) (h : 1 ≤ r) : (sched m).duties (barCell c) r = ∅ := by
  dsimp only [sched]; rw [if_pos rfl, kindOf_bar]; exact if_neg (by omega)
theorem duties_r (i : ℕ) (h : i < 32) : (sched m).duties (rcell a c i) (i / 4) = {false} := by
  dsimp only [sched]; rw [if_pos rfl, kindOf_r]; exact if_pos (by omega)
theorem duties_r_later (s : Fin 4) (r : ℕ) (h : 8 ≤ r) : (sched m).duties ((c : Thread nD τ), .dma (rsem a s)) r = ∅ := by
  dsimp only [sched]; rw [if_pos rfl, kindOf_r]; exact if_neg (by omega)
theorem amount_bar (d : Bool) : (sched m).amount (barCell c) 0 d = 1 := by
  dsimp only [sched]; rw [kindOf_bar]; rfl
theorem amount_r (i r : ℕ) (d : Bool) : (sched m).amount (rcell a c i) r d = N := by
  dsimp only [sched]; rw [kindOf_r]; rfl
theorem expect_bar : (sched m).expect (barCell c) 0 = 2 := by
  unfold Schedule.expect Schedule.amountOf
  rw [duties_bar, Finset.sum_congr rfl fun d _ => amount_bar m c d, Finset.sum_const, Finset.card_univ, Fintype.card_bool, smul_eq_mul]
theorem expect_r (i : ℕ) (h : i < 32) : (sched m).expect (rcell a c i) (i / 4) = N := by
  unfold Schedule.expect Schedule.amountOf; rw [duties_r m a c i h, Finset.sum_singleton, amount_r]
theorem payload_bar (d : Bool) : (sched m).payload (barCell c) 0 d = barPay d c := by
  dsimp only [sched]; rw [kindOf_bar]; rfl
theorem payload_r (i : ℕ) (d : Bool) : (sched m).payload (rcell a c i) (i / 4) d = pay m a c i := by
  dsimp only [sched]; rw [kindOf_r]
  show pay m a c (4 * (i / 4) + i % 4) = _
  rw [Nat.div_add_mod]
theorem rest_bar : bigSep ((sched m).duties (barCell c) 0 \ ∅) (fun d => (sched m).payload (barCell c) 0 d) = iprop(barPay false c ∗ barPay true c) := by
  rw [Finset.sdiff_empty, duties_bar, bigSep_univ_eq_bigSepL [false, true] (by decide) (by decide), bigSepL_cons_cons, bigSepL_singleton,
    payload_bar, payload_bar]
  rfl
theorem rest_r (i : ℕ) (h : i < 32) : bigSep ((sched m).duties (rcell a c i) (i / 4) \ ∅) (fun d => (sched m).payload (rcell a c i) (i / 4) d) = pay m a c i := by
  rw [Finset.sdiff_empty, duties_r m a c i h, bigSep_singleton, payload_r]

end Sched

/-! ## What is owed, and the levels -/

/-- The chunks from `b` on that device `c` has yet to send along axis `a`. -/
def ow (a : Bool) (c : Dev nD) (b : ℕ) : CellTallies nD τ sig ℕ := ∑ k ∈ Finset.Ico b 32, tallyAt (rcell a (nbr a c) k) k N
def due (c : Dev nD) (b b' : ℕ) : CellTallies nD τ sig ℕ := ow false c b + ow true c b'

theorem ow_step (a : Bool) (c : Dev nD) (b : ℕ) (h : b < 32) : ow a c b = ow a c (b + 1) + tallyAt (rcell a (nbr a c) b) b N := by
  have e : Finset.Ico b 32 = insert b (Finset.Ico (b + 1) 32) := by ext k; simp only [Finset.mem_Ico, Finset.mem_insert]; omega
  unfold ow
  rw [e, Finset.sum_insert (by simp), add_comm]
theorem ow_end (a : Bool) (c : Dev nD) (b : ℕ) (h : 32 ≤ b) : ow a c b = 0 := by
  unfold ow; rw [Finset.Ico_eq_empty (by omega), Finset.sum_empty]

/-- What it owes at launch: two signals, and every chunk. -/
def O₁ (c : Dev nD) : CellTallies nD τ sig ℕ := due c 0 0 + tallyAt (barCell (nbr true c)) 0 1
def O₀ (c : Dev nD) : CellTallies nD τ sig ℕ := O₁ c + tallyAt (barCell (nbr false c)) 0 1

def L (g : GSem nD τ sig) : Finset ℕ := if g.1.2 = .tc then Finset.range 32 else ∅
/-- The barrier is at 1; a chunk's landing across `y` at `2 i + 2`, across `x` at `2 i + 3`; every other wait at 0. -/
def lv (g : GSem nD τ sig) (ι : ℕ) : ℕ := match kindOf g.2 with
  | none => 0
  | some none => 1
  | some (some (a, _)) => 2 * ι + 2 + a.toNat

theorem L_of_ne (g : GSem nD τ sig) (h : g.1.2 ≠ .tc) : L g = ∅ := if_neg h
theorem L_tc (c : Dev nD) (sm : SemLoc sig) : L ((c : Thread nD τ), sm) = Finset.range 32 := if_pos rfl
theorem lv_r (a : Bool) (c : Dev nD) (i ι : ℕ) : lv (rcell a c i) ι = 2 * ι + 2 + a.toNat := by unfold lv; rw [kindOf_r]
theorem lv_bar (c : Dev nD) (ι : ℕ) : lv (barCell c) ι = 1 := by unfold lv; rw [kindOf_bar]

theorem ow_pos {a : Bool} {c : Dev nD} {b : ℕ} {g : GSem nD τ sig} {ι : ℕ} (h : 0 < ow a c b g ι) :
    b ≤ ι ∧ ι < 32 ∧ g = rcell a (nbr a c) ι := by
  unfold ow at h
  rw [Finset.sum_apply, Finsupp.finset_sum_apply] at h
  obtain ⟨k, hk, hp⟩ := (Finset.sum_pos_iff_of_nonneg (fun _ _ => Nat.zero_le _)).mp h
  rw [tallyAt_apply] at hp
  by_cases hc : g = rcell a (nbr a c) k ∧ ι = k
  · obtain ⟨h1, rfl⟩ := hc
    rw [Finset.mem_Ico] at hk
    exact ⟨hk.1, hk.2, h1⟩
  · rw [if_neg hc] at hp; exact absurd hp (Nat.lt_irrefl 0)

theorem due_pos {c : Dev nD} {b b' : ℕ} {g : GSem nD τ sig} {ι : ℕ} (h : 0 < due c b b' g ι) :
    ι < 32 ∧ ((b ≤ ι ∧ g = rcell false (nbr false c) ι) ∨ (b' ≤ ι ∧ g = rcell true (nbr true c) ι)) := by
  unfold due at h
  rw [Pi.add_apply, Finsupp.add_apply] at h
  rcases Nat.eq_zero_or_pos (ow false c b g ι) with h0 | h0
  · rw [h0, Nat.zero_add] at h
    have := ow_pos h
    exact ⟨this.2.1, .inr ⟨this.1, this.2.2⟩⟩
  · have := ow_pos h0
    exact ⟨this.2.1, .inl ⟨this.1, this.2.2⟩⟩

/-- A wait below everything owed. -/
theorem mayWait (c : Dev nD) (sm : SemLoc sig) (ι b b' : ℕ) (hι : ι < 32)
    (h : lv ((c : Thread nD τ), sm) ι < 2 * b + 2) (h' : lv ((c : Thread nD τ), sm) ι < 2 * b' + 3) :
    (levAts L lv : sProp 𝕄) ⊢ MayWait (c : Thread nD τ) sm ι (due c b b') :=
  MayOwe.of_cut (L := L) (lev := lv) (lv ((c : Thread nD τ), sm) ι)
    (fun p hp => by rw [Finset.mem_singleton.mp hp, L_tc]; exact Finset.mem_range.mpr hι)
    (fun g u hg => by
      obtain ⟨hu, ⟨-, rfl⟩ | ⟨-, rfl⟩⟩ := due_pos hg <;> (rw [L_tc]; exact Finset.mem_range.mpr hu))
    (fun p hp => by rw [Finset.mem_singleton.mp hp])
    (fun g u hg => by
      obtain ⟨hu, ⟨hb, rfl⟩ | ⟨hb, rfl⟩⟩ := due_pos hg
      · rw [lv_r, Bool.toNat_false]; omega
      · rw [lv_r, Bool.toNat_true]; omega)

/-- A wait on a semaphore none pays but the device itself. -/
theorem mayWait_own (c : Dev nD) (sm : SemLoc sig) (h : ∀ k, csem k ≠ sm) (b b' : ℕ) :
    (levAts L lv : sProp 𝕄) ⊢ MayWait (c : Thread nD τ) sm 0 (due c b b') := by
  have : lv ((c : Thread nD τ), sm) 0 = 0 := by unfold lv; rw [kindOf_none h]
  exact mayWait c sm 0 b b' (by decide) (by omega) (by omega)

/-! ## What every step may use -/

variable (K : Dev nD × Cell → ℕ)

/-- The cells' invariants and the level facts. -/
def recs : sProp 𝕄 := iprop((bigSep Finset.univ fun ck : Dev nD × Cell => cellInv ER (sched m) (K ck) (kcell ck)) ∗ levAts L lv)
instance recs_persistent : BI.Persistent (recs m K) := by unfold recs; infer_instance

theorem recs_inv (a : Bool) (c : Dev nD) (i : ℕ) : recs m K ⊢ cellInv ER (sched m) (K (c, some (a, quad i))) (rcell a c i) := by
  exact sep_elim_left.trans (bigSep_elim (Φ := fun ck : Dev nD × Cell => cellInv ER (sched m) (K ck) (kcell ck)) (Finset.mem_univ ((c, some (a, quad i)) : Dev nD × Cell)))
theorem recs_bar (c : Dev nD) : recs m K ⊢ cellInv ER (sched m) (K (c, none)) (barCell c) := by
  exact sep_elim_left.trans (bigSep_elim (Φ := fun ck : Dev nD × Cell => cellInv ER (sched m) (K ck) (kcell ck)) (Finset.mem_univ ((c, none) : Dev nD × Cell)))
theorem recs_lev : recs m K ⊢ levAts L lv := by
  unfold recs
  iintro ⟨-, H⟩
  iexact H

end Cert.KernelIdeal.Hand
-- ==== Proof.Family.lean ====
module

public import proofs.«01_k».proof.Proof.Rules

/-!
Resources numbered by chunk, over a run of chunks: the first of the run is taken off, one more is put on at its end, and
an empty run is nothing.
-/

@[expose] public section

noncomputable section

namespace Cert.Hand

open Idealize.SL Idealize.SL.RA
open Idealize.SL.BI (sProp bigSep)
open scoped Idealize.SL.BI
open Idealize.SL.BI.BIBase Idealize.SL.BI.Laws Idealize.SL.ProofMode

variable {M : Type} [URA M] (Φ : ℕ → sProp M)

/-- `Φ` of every chunk from `a` up to `b`. -/
def fam (a b : ℕ) : sProp M := bigSep (Finset.Ico a b) Φ

theorem fam_nil {a b : ℕ} (h : b ≤ a) : fam Φ a b = iprop(emp) := by
  unfold fam; rw [Finset.Ico_eq_empty_of_le h]; rfl

theorem fam_take {a b : ℕ} (h : a < b) : fam Φ a b = iprop(Φ a ∗ fam Φ (a + 1) b) := by
  have e : Finset.Ico a b = insert a (Finset.Ico (a + 1) b) := by
    ext k; rw [Finset.mem_insert, Finset.mem_Ico, Finset.mem_Ico]; omega
  unfold fam
  rw [e, BI.bigSep_insert (fun hm => absurd (Finset.mem_Ico.mp hm).1 (by omega))]
  rfl

theorem fam_put {a b : ℕ} (h : a ≤ b) : fam Φ a (b + 1) = iprop(Φ b ∗ fam Φ a b) := by
  have e : Finset.Ico a (b + 1) = insert b (Finset.Ico a b) := by
    ext k; rw [Finset.mem_insert, Finset.mem_Ico, Finset.mem_Ico]; omega
  unfold fam
  rw [e, BI.bigSep_insert (fun hm => absurd (Finset.mem_Ico.mp hm).2 (by omega))]
  rfl

/-- A run whose members are all replaced. -/
theorem fam_mono {Ψ : ℕ → sProp M} {a b : ℕ} (h : ∀ k, a ≤ k → k < b → (Φ k ⊢ Ψ k)) : fam Φ a b ⊢ fam Ψ a b := by
  unfold fam
  exact BI.bigSep_mono fun k hk => h k (Finset.mem_Ico.mp hk).1 (Finset.mem_Ico.mp hk).2

end Cert.Hand
-- ==== Proof.OpsIdeal.lean ====
module

public import proofs.«01_k».proof.Proof.ProtocolIdeal
public import proofs.«01_k».proof.Proof.Family

/-!
What each operation of a chunk takes and gives.
-/

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-! ## Triples -/

/-- Run on device `c`'s core. -/
abbrev wpK (c : Dev nD) {α : Type} (p : K F α) (Q : α → sProp 𝕄) : sProp 𝕄 := wp frame (wpE (defs₀ (F := F)) 𝒱₀ (c : Thread nD τ) none) Set.univ p Q

/-- From `P`, `p` runs on device `c` and leaves `R`, whatever comes after it. -/
def Tri (c : Dev nD) (P : sProp 𝕄) (p : K F PUnit) (R : sProp 𝕄) : Prop :=
  ∀ (α : Type) (k : PUnit → K F α) (Q : α → sProp 𝕄), P ⊢ iprop((R -∗ wpK c (k ⟨⟩) Q) -∗ wpK c (p >>= k) Q)

section Tri
variable {c : Dev nD} {p q : K F PUnit} {P P' R R' S : sProp (MT nD τ sig ℕ (Elt F) ℕ UU ℕ)}

theorem Tri.run (h : Tri c P p R) {α : Type} {k : PUnit → K F α} {Q : α → sProp 𝕄} : P ⊢ iprop((R -∗ wpK c (k ⟨⟩) Q) -∗ wpK c (p >>= k) Q)   := h α k Q

theorem Tri.seq (h : Tri c P p R) (h' : Tri c R q S) : Tri c P (p >>= fun _ => q) S := by
  intro α k Q
  rw [bind_assoc]
  iintro HP Hk
  iapply (h α (fun _ => q >>= k) Q) $$ HP
  iintro HR
  iapply (h' α k Q) $$ HR
  iexact Hk

theorem Tri.skip : Tri c P (pure ⟨⟩) P := by
  intro α k Q
  rw [pure_bind]
  iintro HP Hk
  iapply Hk; iexact HP

theorem Tri.mono (h : Tri c P p R) (hP : P' ⊢ P) (hR : R ⊢ R') : Tri c P' p R' := by
  intro α k Q
  iintro HP Hk
  iapply (h α k Q) $$ [HP]
  · iapply hP; iexact HP
  iintro HR
  iapply Hk
  iapply hR; iexact HR

theorem Tri.frame (h : Tri c P p R) (X : sProp 𝕄) : Tri c iprop(P ∗ X) p iprop(R ∗ X) := by
  intro α k Q
  iintro ⟨HP, HX⟩ Hk
  iapply (h α k Q) $$ HP
  iintro HR
  iapply Hk
  isplitl [HR] <;> iassumption

/-- A guard whose operation is skipped. -/
theorem Tri.ite {b : Prop} [Decidable b] (h : b → Tri c P p R) (h' : ¬b → (P ⊢ R)) : Tri c P (if b then p else pure ⟨⟩) R := by
  by_cases hb : b
  · rw [if_pos hb]; exact h hb
  · rw [if_neg hb]; exact Tri.skip.mono .rfl (h' hb)
end Tri

variable (m : (ℓ : Loc nD τ sig) → Buf (Elt F) ℓ) (K : Dev nD × Cell → ℕ)

/-! ## Semaphores none but their device pays -/

theorem own_pload (s : Fin 2) (k : Cell) : csem k ≠ .dma (sem2 cc0_scratch7 s) := by revert s k; decide
theorem own_rload (s : Fin 2) (k : Cell) : csem k ≠ .dma (sem2 cc0_scratch8 s) := by revert s k; decide
theorem own_store (s : Fin 2) (k : Cell) : csem k ≠ .dma (sem2 cc0_scratch9 s) := by revert s k; decide
theorem own_xstore (s : Fin 2) (k : Cell) : csem k ≠ .dma (sem2 cc0_scratch10 s) := by revert s k; decide
theorem own_ysend (s : Fin 2) (k : Cell) : csem k ≠ .dma (sem2 cc0_scratch11 s) := by revert s k; decide
theorem own_xsend (s : Fin 2) (k : Cell) : csem k ≠ .dma (sem2 cc0_scratch13 s) := by revert s k; decide

/-! ## The credit of each slot -/

theorem credit_own32 (s : Fin 2) : (slot2 own32 s).view.dmaCredit = N32 := rfl
theorem credit_resV (s : Fin 2) : (slot2 resV s).view.dmaCredit = N32 := rfl
theorem credit_own16 (s : Fin 2) : (slot2 own16 s).view.dmaCredit = N := rfl
theorem credit_out16 (s : Fin 2) : (slot2 out16 s).view.dmaCredit = N := rfl
theorem credit_recY (s : Fin 4) : (slot4 recY s).view.dmaCredit = N := rfl
theorem credit_recX (s : Fin 4) : (slot4 recX s).view.dmaCredit = N := rfl
theorem credit_outOwn (c : Dev nD) (i : ℕ) : (outOwn c i).view.dmaCredit = N := rfl
theorem credit_outOth (c : Dev nD) (i : ℕ) : (outOth c i).view.dmaCredit = N := rfl

/-- The device's debt at some chunk, with whatever waits it has recorded. -/
abbrev debt (c : Dev nD) (b b' : ℕ) : sProp 𝕄 := iprop(∃ W, owes (c : Thread nD τ) (due c b b') W)

/-- The device's own semaphore, at zero. -/
abbrev zero (c : Dev nD) (s : DmaSem sig) : sProp 𝕄 := semVal ((c : Thread nD τ), .dma s) 0
abbrev flight (c : Dev nD) (s : DmaSem sig) (n : ℕ) (D : sProp 𝕄) : sProp 𝕄 := Flight EC (c : Thread nD τ) (.dma s) 0 n D

/-! ## Loads -/

variable (c : Dev nD)

theorem tri_loadP (i : ℕ) :
    Tri c iprop(owns (c : Thread nD τ) (srcP c i) fullShare (Pv m c i) ∗ ownsAny (c : Thread nD τ) (slot2 own32 (par i)) ∗ zero c (sem2 cc0_scratch7 (par i)))
      (loadP c i)
      (flight c (sem2 cc0_scratch7 (par i)) N32 iprop(owns (c : Thread nD τ) (slot2 own32 (par i)) fullShare (Pv m c i) ∗ owns (c : Thread nD τ) (srcP c i) fullShare (Pv m c i))) := by
  intro α k Q
  simp only [loadP, Prog.bind_lift]
  exact wp_copy EC 𝒱₀ (c : Thread nD τ) none 0 N32 (credit_own32 (par i)) N32_pos

theorem tri_loadR (i : ℕ) :
    Tri c iprop(owns (c : Thread nD τ) (srcR c i) fullShare (Rv m c i) ∗ ownsAny (c : Thread nD τ) (slot2 resV (par i)) ∗ zero c (sem2 cc0_scratch8 (par i)))
      (loadR c i)
      (flight c (sem2 cc0_scratch8 (par i)) N32 iprop(owns (c : Thread nD τ) (slot2 resV (par i)) fullShare (Rv m c i) ∗ owns (c : Thread nD τ) (srcR c i) fullShare (Rv m c i))) := by
  intro α k Q
  simp only [loadR, Prog.bind_lift]
  exact wp_copy EC 𝒱₀ (c : Thread nD τ) none 0 N32 (credit_resV (par i)) N32_pos

/-! ## Waits for the device's own transfers -/

theorem tri_waitP (i b b' : ℕ) (D : sProp 𝕄) :
    Tri c iprop(flight c (sem2 cc0_scratch7 (par i)) N32 D ∗ debt c b b' ∗ recs m K) (waitP c i) iprop(D ∗ zero c (sem2 cc0_scratch7 (par i)) ∗ debt c b b') := by
  intro α k Q
  simp only [waitP, Prog.bind_lift]
  exact wp_waitFlight EC 𝒱₀ (c : Thread nD τ) none 0 (credit_own32 (par i)) ((recs_lev m K).trans (mayWait_own c _ (own_pload _) b b'))
theorem tri_waitR (i b b' : ℕ) (D : sProp 𝕄) :
    Tri c iprop(flight c (sem2 cc0_scratch8 (par i)) N32 D ∗ debt c b b' ∗ recs m K) (waitR c i) iprop(D ∗ zero c (sem2 cc0_scratch8 (par i)) ∗ debt c b b') := by
  intro α k Q
  simp only [waitR, Prog.bind_lift]
  exact wp_waitFlight EC 𝒱₀ (c : Thread nD τ) none 0 (credit_resV (par i)) ((recs_lev m K).trans (mayWait_own c _ (own_rload _) b b'))
theorem tri_waitYS (i b b' : ℕ) (D : sProp 𝕄) :
    Tri c iprop(flight c (sem2 cc0_scratch11 (par i)) N D ∗ debt c b b' ∗ recs m K) (waitYS i) iprop(D ∗ zero c (sem2 cc0_scratch11 (par i)) ∗ debt c b b') := by
  intro α k Q
  simp only [waitYS, Prog.bind_lift]
  exact wp_waitFlight EC 𝒱₀ (c : Thread nD τ) none 0 (credit_own16 (par i)) ((recs_lev m K).trans (mayWait_own c _ (own_ysend _) b b'))
theorem tri_waitXS (i b b' : ℕ) (D : sProp 𝕄) :
    Tri c iprop(flight c (sem2 cc0_scratch13 (par i)) N D ∗ debt c b b' ∗ recs m K) (waitXS i) iprop(D ∗ zero c (sem2 cc0_scratch13 (par i)) ∗ debt c b b') := by
  intro α k Q
  simp only [waitXS, Prog.bind_lift]
  exact wp_waitFlight EC 𝒱₀ (c : Thread nD τ) none 0 (credit_out16 (par i)) ((recs_lev m K).trans (mayWait_own c _ (own_xsend _) b b'))
theorem tri_waitO (i b b' : ℕ) (D : sProp 𝕄) :
    Tri c iprop(flight c (sem2 cc0_scratch9 (par i)) N D ∗ debt c b b' ∗ recs m K) (waitO c i) iprop(D ∗ zero c (sem2 cc0_scratch9 (par i)) ∗ debt c b b') := by
  intro α k Q
  simp only [waitO, Prog.bind_lift]
  exact wp_waitFlight EC 𝒱₀ (c : Thread nD τ) none 0 (credit_outOwn c i) ((recs_lev m K).trans (mayWait_own c _ (own_store _) b b'))
theorem tri_waitX (i b b' : ℕ) (D : sProp 𝕄) :
    Tri c iprop(flight c (sem2 cc0_scratch10 (par i)) N D ∗ debt c b b' ∗ recs m K) (waitX c i) iprop(D ∗ zero c (sem2 cc0_scratch10 (par i)) ∗ debt c b b') := by
  intro α k Q
  simp only [waitX, Prog.bind_lift]
  exact wp_waitFlight EC 𝒱₀ (c : Thread nD τ) none 0 (credit_outOth c i) ((recs_lev m K).trans (mayWait_own c _ (own_xstore _) b b'))

/-! ## Stores of the result -/

theorem tri_storeO (i : ℕ) (q : PosShare TreeShare) (X : Vec F S128x2048 .bf16) :
    Tri c iprop(owns (c : Thread nD τ) (slot2 out16 (par i)) q X ∗ ownsAny (c : Thread nD τ) (outOwn c i) ∗ zero c (sem2 cc0_scratch9 (par i)))
      (storeO c i)
      (flight c (sem2 cc0_scratch9 (par i)) N iprop(owns (c : Thread nD τ) (outOwn c i) fullShare X ∗ owns (c : Thread nD τ) (slot2 out16 (par i)) q X)) := by
  intro α k Q
  simp only [storeO, Prog.bind_lift]
  exact wp_copy EC 𝒱₀ (c : Thread nD τ) none 0 N (credit_outOwn c i) N_pos
theorem tri_storeX (i : ℕ) (q : PosShare TreeShare) (X : Vec F S128x2048 .bf16) :
    Tri c iprop(owns (c : Thread nD τ) (slot4 recX (quad i)) q X ∗ ownsAny (c : Thread nD τ) (outOth c i) ∗ zero c (sem2 cc0_scratch10 (par i)))
      (storeX c i)
      (flight c (sem2 cc0_scratch10 (par i)) N iprop(owns (c : Thread nD τ) (outOth c i) fullShare X ∗ owns (c : Thread nD τ) (slot4 recX (quad i)) q X)) := by
  intro α k Q
  simp only [storeX, Prog.bind_lift]
  exact wp_copy EC 𝒱₀ (c : Thread nD τ) none 0 N (credit_outOth c i) N_pos

/-! ## Compute -/

theorem castP_value (s : Fin 2) (X : Vec F S128x2048 .f32) (h : S128x2048.ShapeCasts (R2 s).shape) (h' : (R2 s).shape.ShapeCasts S128x2048) :
    shapeCast (s := (R2 s).shape) S128x2048 (k0_pay1 (shapeCast (R2 s).shape X h)) h' = truncf .bf16 (X : FVec F S128x2048 .f32) bitsLt_bf16_f32 := by
  refine (shapeCast_shapeCast (truncf .bf16 (shapeCast S128x2048 (shapeCast S1x128x2048 X h) shapeCasts_S1x128x2048_S128x2048 : FVec F S128x2048 .f32) bitsLt_bf16_f32) shapeCasts_S128x2048_S1x128x2048 h').trans ?_
  rw [shapeCast_shapeCast]

theorem tri_castP (i : ℕ) :
    Tri c iprop(owns (c : Thread nD τ) (slot2 own32 (par i)) fullShare (Pv m c i) ∗ ownsAny (c : Thread nD τ) (slot2 own16 (par i)))
      (castP i)
      iprop(owns (c : Thread nD τ) (slot2 own32 (par i)) fullShare (Pv m c i) ∗ owns (c : Thread nD τ) (slot2 own16 (par i)) fullShare (Yv m c i)) := by
  intro α k Q
  simp only [castP, Prog.bind_lift, Prog.bind_assoc]
  iintro ⟨H32, H16⟩ Hk
  iapply (wp_loadSlot 𝒱₀ (c : Thread nD τ) none) $$ H32
  iintro H32
  unfold ownsAny
  icases H16 with ⟨%Y, H16⟩
  iapply (wp_loadSlot 𝒱₀ (c : Thread nD τ) none) $$ H16
  iintro H16
  iapply (wp_storeSlot 𝒱₀ (c : Thread nD τ) none) $$ [H16]
  · iapply (ownsAny_intro (c : Thread nD τ) (slot2 own16 (par i)) Y); iexact H16
  rw [castP_value]
  iintro H16
  iapply Hk
  isplitl [H32]; · iexact H32
  iexact H16

theorem tri_norm (gM : Memref sig .tc .vmem S2048 .f32) (i : ℕ) :
    Tri c iprop(owns (c : Thread nD τ) (slot2 own32 (par i)) fullShare (Pv m c i) ∗ owns (c : Thread nD τ) (slot4 recY (quad i)) fullShare (Yv m (ynbr c) i)
        ∗ owns (c : Thread nD τ) (slot2 resV (par i)) fullShare (Rv m c i) ∗ owns (c : Thread nD τ) gM fullShare (gv m c) ∗ ownsAny (c : Thread nD τ) outV)
      (norm gM i)
      iprop(owns (c : Thread nD τ) (slot2 own32 (par i)) fullShare (Pv m c i) ∗ owns (c : Thread nD τ) (slot4 recY (quad i)) fullShare (Yv m (ynbr c) i)
        ∗ owns (c : Thread nD τ) (slot2 resV (par i)) fullShare (Rv m c i) ∗ owns (c : Thread nD τ) gM fullShare (gv m c) ∗ owns (c : Thread nD τ) outV fullShare (Ov m c i)) := by
  intro α k Q
  simp only [norm, Prog.bind_lift, Prog.bind_assoc]
  iintro ⟨H32, HY, HR, Hg, HO⟩ Hk
  iapply (wp_loadSlot 𝒱₀ (c : Thread nD τ) none) $$ H32
  iintro H32
  iapply (wp_loadSlot 𝒱₀ (c : Thread nD τ) none) $$ HY
  iintro HY
  iapply (wp_loadSlot 𝒱₀ (c : Thread nD τ) none) $$ HR
  iintro HR
  iapply (wp_loadWhole 𝒱₀ (c : Thread nD τ) none) $$ Hg
  iintro Hg
  unfold ownsAny
  icases HO with ⟨%Z, HO⟩
  iapply (wp_loadWhole 𝒱₀ (c : Thread nD τ) none) $$ HO
  iintro HO
  iapply (wp_storeWhole 𝒱₀ (c : Thread nD τ) none) $$ [HO]
  · iapply (ownsAny_intro (c : Thread nD τ) outV Z); iexact HO
  iintro HO
  iapply Hk
  isplitl [H32]; · iexact H32
  isplitl [HY]; · iexact HY
  isplitl [HR]; · iexact HR
  isplitl [Hg]; · iexact Hg
  iexact HO

theorem castO_value (s : Fin 2) (X : Vec F S128x2048 .f32) (h' : (R2 s).shape.ShapeCasts S128x2048) :
    shapeCast (s := (R2 s).shape) S128x2048 (k0_pay5 X) h' = truncf .bf16 (X : FVec F S128x2048 .f32) bitsLt_bf16_f32 :=
  shapeCast_shapeCast (truncf .bf16 (X : FVec F S128x2048 .f32) bitsLt_bf16_f32) shapeCasts_S128x2048_S1x128x2048 h'

theorem tri_castO (i : ℕ) :
    Tri c iprop(owns (c : Thread nD τ) outV fullShare (Ov m c i) ∗ ownsAny (c : Thread nD τ) (slot2 out16 (par i)))
      (castO i)
      iprop(ownsAny (c : Thread nD τ) outV ∗ owns (c : Thread nD τ) (slot2 out16 (par i)) fullShare (Bv m c i)) := by
  intro α k Q
  simp only [castO, Prog.bind_lift, Prog.bind_assoc]
  iintro ⟨HO, H16⟩ Hk
  iapply (wp_loadWhole 𝒱₀ (c : Thread nD τ) none) $$ HO
  iintro HO
  unfold ownsAny
  icases H16 with ⟨%Y, H16⟩
  iapply (wp_loadSlot 𝒱₀ (c : Thread nD τ) none) $$ H16
  iintro H16
  iapply (wp_storeSlot 𝒱₀ (c : Thread nD τ) none) $$ [H16]
  · iapply (ownsAny_intro (c : Thread nD τ) (slot2 out16 (par i)) Y); iexact H16
  rw [castO_value]
  iintro H16
  iapply Hk
  isplitl [HO]
  · iexists _; iexact HO
  iexact H16

/-! ## Between the devices -/

theorem pay_intro (a : Bool) (i : ℕ) :
    iprop(owns (nbr a c : Thread nD τ) (lslot a i) fullShare (sent m a c i) ∗ along a c i) ⊢ (sched m).payload (rcell a (nbr a c) i) (i / 4) false := by
  rw [payload_r]
  unfold pay
  rw [nbr_nbr]

theorem due_stepY (b b' : ℕ) (h : b < 32) : due c b b' = due c (b + 1) b' + tallyAt (rcell false (nbr false c) b) b N := by
  unfold due; rw [ow_step false c b h]; exact add_right_comm _ _ _
theorem due_stepX (b b' : ℕ) (h : b' < 32) : due c b b' = due c b (b' + 1) + tallyAt (rcell true (nbr true c) b') b' N := by
  unfold due; rw [ow_step true c b' h]; exact (add_assoc _ _ _).symm

theorem tri_sendY (i b' : ℕ) (hi : i < 32) (q : PosShare TreeShare) :
    Tri c iprop(owns (c : Thread nD τ) (slot2 own16 (par i)) q (Yv m c i) ∗ freed false (nbr false c) i ∗ zero c (sem2 cc0_scratch11 (par i)) ∗ debt c i b'
        ∗ recs m K ∗ dutyTok ER (rcell false (nbr false c) i) (i / 4) false ∗ along false c i)
      (sendY c i)
      iprop(flight c (sem2 cc0_scratch11 (par i)) N (owns (c : Thread nD τ) (slot2 own16 (par i)) q (Yv m c i)) ∗ debt c (i + 1) b') := by
  intro α k Q
  simp only [sendY, Prog.bind_lift]
  iintro ⟨Hs, Hr, Hz, ⟨%W, HO⟩, #Hrec, Ht, HZ⟩ Hk
  unfold freed
  icases Hr with ⟨Hd, Hr⟩
  iapply (wp_sendPay EC 𝒱₀ (c : Thread nD τ) none ER (sched m) (κ := K (nbr false c, some (false, quad i))) (r := i / 4) (dd := false) (Z := along false c i) i 0 (O₀ := due c i b') (due c (i + 1) b') N (show (slot4 recY (quad i)).view.amount (.dma (sem4 cc0_scratch12 (quad i))) = N from credit_recY (quad i)) N_pos
    (due_stepY c i b' hi) (by rw [duties_r m false (nbr false c) i hi]; exact Finset.mem_singleton_self _) (amount_r m false (nbr false c) i _ _)
    (pay_intro m c false i) (by routes)) $$ [Hs Hr Hz HO Ht HZ Hd]
  · isplitl [Hs]; · iexact Hs
    isplitl [Hd]; · iexact Hd
    isplitl [Hz]; · iexact Hz
    isplitl [HO]; · iexact HO
    isplitr; · iapply (recs_inv m K false (nbr false c) i); iexact Hrec
    isplitl [Ht]; · iexact Ht
    isplitl [Hr]; · iexact Hr
    iexact HZ
  iintro ⟨HF, HO⟩
  iapply Hk
  isplitl [HF]; · iexact HF
  iexists _; iexact HO

theorem tri_sendX (i b : ℕ) (hi : i < 32) (q : PosShare TreeShare) :
    Tri c iprop(owns (c : Thread nD τ) (slot2 out16 (par i)) q (Bv m c i) ∗ freed true (nbr true c) i ∗ zero c (sem2 cc0_scratch13 (par i)) ∗ debt c b i
        ∗ recs m K ∗ dutyTok ER (rcell true (nbr true c) i) (i / 4) false ∗ along true c i)
      (sendX c i)
      iprop(flight c (sem2 cc0_scratch13 (par i)) N (owns (c : Thread nD τ) (slot2 out16 (par i)) q (Bv m c i)) ∗ debt c b (i + 1)) := by
  intro α k Q
  simp only [sendX, Prog.bind_lift]
  iintro ⟨Hs, Hr, Hz, ⟨%W, HO⟩, #Hrec, Ht, HZ⟩ Hk
  unfold freed
  icases Hr with ⟨Hd, Hr⟩
  iapply (wp_sendPay EC 𝒱₀ (c : Thread nD τ) none ER (sched m) (κ := K (nbr true c, some (true, quad i))) (r := i / 4) (dd := false) (Z := along true c i) i 0 (O₀ := due c b i) (due c b (i + 1)) N (show (slot4 recX (quad i)).view.amount (.dma (sem4 cc0_scratch14 (quad i))) = N from credit_recX (quad i)) N_pos
    (due_stepX c b i hi) (by rw [duties_r m true (nbr true c) i hi]; exact Finset.mem_singleton_self _) (amount_r m true (nbr true c) i _ _)
    (pay_intro m c true i) (by routes)) $$ [Hs Hr Hz HO Ht HZ Hd]
  · isplitl [Hs]; · iexact Hs
    isplitl [Hd]; · iexact Hd
    isplitl [Hz]; · iexact Hz
    isplitl [HO]; · iexact HO
    isplitr; · iapply (recs_inv m K true (nbr true c) i); iexact Hrec
    isplitl [Ht]; · iexact Ht
    isplitl [Hr]; · iexact Hr
    iexact HZ
  iintro ⟨HF, HO⟩
  iapply Hk
  isplitl [HF]; · iexact HF
  iexists _; iexact HO

/-- The owner of a landing cell has come to the round of chunk `i`. -/
abbrev pos (a : Bool) (c : Dev nD) (i : ℕ) : sProp 𝕄 := atPos ER (rcell a c i) (i / 4) ∅ 0
abbrev come (a : Bool) (c : Dev nD) (i : ℕ) : sProp 𝕄 := reached ER (rcell a c i) (i / 4)
abbrev credit (a : Bool) (c : Dev nD) (i : ℕ) : sProp 𝕄 := cred (tallyAt (rcell a c i) i N)

theorem pos_next (a : Bool) (i : ℕ) : (atPos ER (rcell a c i) (i / 4 + 1) ∅ 0 : sProp 𝕄) ⊢ pos a c (i + 4) := by
  rw [pos, rcell_add4, show (i + 4) / 4 = i / 4 + 1 by omega]
theorem come_next (a : Bool) (i : ℕ) : (reached ER (rcell a c i) (i / 4 + 1) : sProp 𝕄) ⊢ come a c (i + 4) := by
  rw [come, rcell_add4, show (i + 4) / 4 = i / 4 + 1 by omega]

theorem tri_waitYR (i b b' : ℕ) (hi : i < 32) (hb : 2 * i + 2 < 2 * b + 2) (hb' : 2 * i + 2 < 2 * b' + 3) :
    Tri c iprop(credit false c i ∗ pos false c i ∗ debt c b b' ∗ recs m K) (waitYR i)
      iprop(pay m false c i ∗ pos false c (i + 4) ∗ come false c (i + 4) ∗ debt c b b') := by
  intro α k Q
  simp only [waitYR, Prog.bind_lift]
  iintro ⟨Hc, Hp, HO, #Hrec⟩ Hk
  iapply (wp_waitRound 𝒱₀ (c : Thread nD τ) none ER (sched m) (κ := K (c, some (false, quad i))) i (credit_recY (quad i)) (R := i / 4) (expect_r m false c i hi).symm
    ((recs_lev m K).trans (mayWait c (.dma (sem4 cc0_scratch12 (quad i))) i b b' hi (by rw [lv_r false c i i, Bool.toNat_false]; omega) (by rw [lv_r false c i i, Bool.toNat_false]; omega)))) $$ [Hc Hp HO]
  · isplitr; · iapply (recs_inv m K false c i); iexact Hrec
    isplitl [Hc]; · iexact Hc
    isplitl [HO]; · iexact HO
    isplitr; · iexact Hrec
    iexact Hp
  rw [rest_r m false c i hi]
  iintro ⟨HO, Hp, Hr, Hpay⟩
  iapply Hk
  isplitl [Hpay]; · iexact Hpay
  isplitl [Hp]; · iapply (pos_next c false i); iexact Hp
  isplitl [Hr]; · iapply (come_next c false i); iexact Hr
  iexact HO

theorem tri_waitXR (i b b' : ℕ) (hi : i < 32) (hb : 2 * i + 3 < 2 * b + 2) (hb' : 2 * i + 3 < 2 * b' + 3) :
    Tri c iprop(credit true c i ∗ pos true c i ∗ debt c b b' ∗ recs m K) (waitXR i)
      iprop(pay m true c i ∗ pos true c (i + 4) ∗ come true c (i + 4) ∗ debt c b b') := by
  intro α k Q
  simp only [waitXR, Prog.bind_lift]
  iintro ⟨Hc, Hp, HO, #Hrec⟩ Hk
  iapply (wp_waitRound 𝒱₀ (c : Thread nD τ) none ER (sched m) (κ := K (c, some (true, quad i))) i (credit_recX (quad i)) (R := i / 4) (expect_r m true c i hi).symm
    ((recs_lev m K).trans (mayWait c (.dma (sem4 cc0_scratch14 (quad i))) i b b' hi (by rw [lv_r true c i i, Bool.toNat_true]; omega) (by rw [lv_r true c i i, Bool.toNat_true]; omega)))) $$ [Hc Hp HO]
  · isplitr; · iapply (recs_inv m K true c i); iexact Hrec
    isplitl [Hc]; · iexact Hc
    isplitl [HO]; · iexact HO
    isplitr; · iexact Hrec
    iexact Hp
  rw [rest_r m true c i hi]
  iintro ⟨HO, Hp, Hr, Hpay⟩
  iapply Hk
  isplitl [Hpay]; · iexact Hpay
  isplitl [Hp]; · iapply (pos_next c true i); iexact Hp
  isplitl [Hr]; · iapply (come_next c true i); iexact Hr
  iexact HO

end Cert.KernelIdeal.Hand
-- ==== Proof.StepsIdeal.lean ====
module

public import proofs.«01_k».proof.Proof.OpsIdeal

/-!
The five steps of a chunk.  What a device holds before chunk `i` is described family by family, and each step says how it
moves the families it touches on by one chunk.
-/

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : Dev nD × Cell → ℕ) (a : Bool) (c : Dev nD)

/-! ## Sending and receiving, along either axis -/

/-- The duties of the chunks from `i` on. -/
def toks (i : ℕ) : sProp 𝕄 := fam (fun k => dutyTok ER (rcell a (nbr a c) k) (k / 4) false) i 32
/-- The credits and the positions for the chunks to come. -/
def creds (i : ℕ) : sProp 𝕄 := fam (fun k => credit a c k) i 32
def poss (i : ℕ) : sProp 𝕄 := fam (fun k => pos a c k) i (i + 4)
/-- The rights to send in hand when chunk `i` is next, and between the sending of chunk `i - 1` and the landing that brings
    the right for chunk `i`. -/
def rights (i : ℕ) : sProp 𝕄 := fam (fun k => freed a (nbr a c) k) i (min 32 (max 4 (i + 1)))
def gap (i : ℕ) : sProp 𝕄 := fam (fun k => freed a (nbr a c) k) i (min 32 (max 4 i))
/-- The device's own emptied slots, not yet handed on. -/
def heldY (i : ℕ) : sProp 𝕄 := fam (fun k => freed false c k) (max 4 (min 32 (i + 2))) (i + 3)
def heldY' (i : ℕ) : sProp 𝕄 := fam (fun k => freed false c k) (max 4 (min 32 (i + 3))) (i + 3)
def heldX (i : ℕ) : sProp 𝕄 := fam (fun k => freed true c k) 32 (i + 2)

theorem toks_take {i : ℕ} (h : i < 32) : (toks a c i : sProp 𝕄) = iprop(dutyTok ER (rcell a (nbr a c) i) (i / 4) false ∗ toks a c (i + 1)) := by
  unfold toks; rw [fam_take _ h]
theorem creds_take {i : ℕ} (h : i < 32) : (creds a c i : sProp 𝕄) = iprop(credit a c i ∗ creds a c (i + 1)) := by
  unfold creds; rw [fam_take _ h]
theorem poss_step (i : ℕ) : ∃ P : sProp 𝕄, (poss a c i : sProp 𝕄) = iprop(pos a c i ∗ P) ∧ (poss a c (i + 1) : sProp 𝕄) = iprop(pos a c (i + 4) ∗ P) := by
  refine ⟨fam (fun k => pos a c k) (i + 1) (i + 4), ?_, ?_⟩
  · unfold poss; rw [fam_take _ (by omega)]
  · unfold poss; rw [show i + 1 + 4 = (i + 4) + 1 by omega, fam_put _ (by omega)]
theorem rights_take {i : ℕ} (h : i < 32) : (rights a c i : sProp 𝕄) = iprop(freed a (nbr a c) i ∗ gap a c (i + 1)) := by
  unfold rights gap; rw [fam_take _ (by omega)]
theorem gap_close (i : ℕ) : (iprop(gap a c (i + 2) ∗ along a (nbr a c) i) : sProp 𝕄) ⊢ rights a c (i + 2) := by
  unfold gap along rights
  by_cases h : 2 ≤ i ∧ i < 30
  · rw [if_pos h, fam_nil _ (by omega), show min 32 (max 4 (i + 2 + 1)) = (i + 2) + 1 by omega, fam_put _ le_rfl, fam_nil _ le_rfl]
    exact sep_comm.1
  · rw [if_neg h]
    rcases Nat.lt_or_ge i 2 with h2 | h2
    · rw [show min 32 (max 4 (i + 2 + 1)) = min 32 (max 4 (i + 2)) by omega]; exact sep_elim_left
    · rw [fam_nil _ (by omega : min 32 (max 4 (i + 2 + 1)) ≤ i + 2)]; exact sep_elim_right
theorem gap_one : (gap a c 1 : sProp 𝕄) ⊢ rights a c 1 := .rfl
theorem heldY_take (i : ℕ) : (heldY c i : sProp 𝕄) ⊢ iprop(along false c i ∗ heldY' c i) := by
  unfold heldY along heldY'
  by_cases h : 2 ≤ i ∧ i < 30
  · rw [if_pos h, show max 4 (min 32 (i + 2)) = i + 2 by omega, show max 4 (min 32 (i + 3)) = i + 2 + 1 by omega, fam_take _ (by omega)]
  · rw [if_neg h, show max 4 (min 32 (i + 2)) = max 4 (min 32 (i + 3)) by omega]; exact BIClass.emp_sep.2
theorem heldY_put (i : ℕ) (h : 1 ≤ i) : (iprop(freed false c (i + 3) ∗ heldY' c i) : sProp 𝕄) ⊢ heldY c (i + 1) := by
  unfold heldY heldY'
  rw [show i + 1 + 2 = i + 3 by omega, show i + 1 + 3 = i + 3 + 1 by omega, fam_put (b := i + 3) _ (by omega)]
theorem heldX_step (i : ℕ) : (iprop(heldX c (i + 2) ∗ freed true c (i + 4)) : sProp 𝕄) ⊢ iprop(along true c (i + 2) ∗ heldX c (i + 3)) := by
  unfold heldX along
  by_cases h : i + 2 < 30
  · rw [if_pos ⟨by omega, h⟩, fam_nil (b := i + 2 + 2) _ (by omega), fam_nil (b := i + 3 + 2) _ (by omega)]; exact sep_comm.1
  · rw [if_neg (fun h' => h h'.2), show i + 3 + 2 = i + 4 + 1 by omega, fam_put (b := i + 4) _ (by omega)]; exact sep_comm.1.trans BIClass.emp_sep.2
theorem heldX_skip (i : ℕ) (h : i < 2) : (heldX c i : sProp 𝕄) ⊢ iprop(along true c i ∗ heldX c (i + 1)) := by
  unfold heldX along
  rw [if_neg (by omega), fam_nil _ (by omega), fam_nil _ (by omega)]; exact BIClass.emp_sep.2

/-! ## Slots and pieces of the arrays -/

/-- A send slot across `y` at rest; or holding chunk `n - 2` on its way. -/
def YI (n : ℕ) : sProp 𝕄 := iprop(ownsAny (c : Thread nD τ) (slot2 own16 (par n)) ∗ zero c (sem2 cc0_scratch11 (par n)))
def YF (n : ℕ) : sProp 𝕄 := if n < 2 then YI c n else flight c (sem2 cc0_scratch11 (par n)) N (ownsAny (c : Thread nD τ) (slot2 own16 (par n)))
/-- A load slot at rest; chunk `i` on its way in; chunk `i` in. -/
def PI (n : ℕ) : sProp 𝕄 := iprop(ownsAny (c : Thread nD τ) (slot2 own32 (par n)) ∗ zero c (sem2 cc0_scratch7 (par n)))
def RI (n : ℕ) : sProp 𝕄 := iprop(ownsAny (c : Thread nD τ) (slot2 resV (par n)) ∗ zero c (sem2 cc0_scratch8 (par n)))
def PF (n : ℕ) : sProp 𝕄 := if n < 32 then
  flight c (sem2 cc0_scratch7 (par n)) N32 iprop(owns (c : Thread nD τ) (slot2 own32 (par n)) fullShare (Pv m c n) ∗ owns (c : Thread nD τ) (srcP c n) fullShare (Pv m c n))
  else PI c n
def RF (n : ℕ) : sProp 𝕄 := if n < 32 then
  flight c (sem2 cc0_scratch8 (par n)) N32 iprop(owns (c : Thread nD τ) (slot2 resV (par n)) fullShare (Rv m c n) ∗ owns (c : Thread nD τ) (srcR c n) fullShare (Rv m c n))
  else RI c n
def PH (n : ℕ) : sProp 𝕄 := if n < 32 then
  iprop(owns (c : Thread nD τ) (slot2 own32 (par n)) fullShare (Pv m c n) ∗ zero c (sem2 cc0_scratch7 (par n)))
  else PI c n
/-- An output slot at rest; or holding chunk `n - 2` on its way to the array and across `x`. -/
def XI (n : ℕ) : sProp 𝕄 := iprop(ownsAny (c : Thread nD τ) (slot2 out16 (par n)) ∗ zero c (sem2 cc0_scratch13 (par n)) ∗ zero c (sem2 cc0_scratch9 (par n)))
def XF (n : ℕ) : sProp 𝕄 := if n < 2 then XI c n else
  iprop(flight c (sem2 cc0_scratch13 (par n)) N (owns (c : Thread nD τ) (slot2 out16 (par n)) fullShare.right (Bv m c (n - 2)))
    ∗ flight c (sem2 cc0_scratch9 (par n)) N iprop(owns (c : Thread nD τ) (outOwn c (n - 2)) fullShare (Bv m c (n - 2)) ∗ owns (c : Thread nD τ) (slot2 out16 (par n)) fullShare.left (Bv m c (n - 2))))
/-- The store of the other half's chunk `n - 2` on its way. -/
def XS (n : ℕ) : sProp 𝕄 := if n < 2 then zero c (sem2 cc0_scratch10 (par n)) else
  iprop(flight c (sem2 cc0_scratch10 (par n)) N iprop(owns (c : Thread nD τ) (outOth c (n - 2)) fullShare (Bv m (xnbr c) (n - 2)) ∗ owns (c : Thread nD τ) (slot4 recX (quad (n - 2))) fullShare (Bv m (xnbr c) (n - 2)))
    ∗ come true c (n + 2))

/-- The chunks of the arrays, from `i` on or up to `i`. -/
abbrev pieceP (k : ℕ) : sProp 𝕄 := owns (c : Thread nD τ) (srcP c k) fullShare (Pv m c k)
abbrev pieceR (k : ℕ) : sProp 𝕄 := owns (c : Thread nD τ) (srcR c k) fullShare (Rv m c k)
abbrev pieceO (k : ℕ) : sProp 𝕄 := owns (c : Thread nD τ) (outOwn c k) fullShare (Bv m c k)
abbrev pieceX (k : ℕ) : sProp 𝕄 := owns (c : Thread nD τ) (outOth c k) fullShare (Bv m (xnbr c) k)
def todoP (i : ℕ) : sProp 𝕄 := fam (fun k => pieceP m c k) i 32
def doneP (i : ℕ) : sProp 𝕄 := fam (fun k => pieceP m c k) 0 i
def todoR (i : ℕ) : sProp 𝕄 := fam (fun k => pieceR m c k) i 32
def doneR (i : ℕ) : sProp 𝕄 := fam (fun k => pieceR m c k) 0 i
def todoO (i : ℕ) : sProp 𝕄 := fam (fun k => ownsAny (c : Thread nD τ) (outOwn c k)) i 32
def doneO (i : ℕ) : sProp 𝕄 := fam (fun k => pieceO m c k) 0 i
def todoX (i : ℕ) : sProp 𝕄 := fam (fun k => ownsAny (c : Thread nD τ) (outOth c k)) i 32
def doneX (i : ℕ) : sProp 𝕄 := fam (fun k => pieceX m c k) 0 i

theorem todoP_take {i : ℕ} (h : i < 32) : todoP m c i = iprop(pieceP m c i ∗ todoP m c (i + 1)) := by unfold todoP; rw [fam_take _ h]
theorem todoR_take {i : ℕ} (h : i < 32) : todoR m c i = iprop(pieceR m c i ∗ todoR m c (i + 1)) := by unfold todoR; rw [fam_take _ h]
theorem todoO_take {i : ℕ} (h : i < 32) : (todoO c i : sProp 𝕄) = iprop(ownsAny (c : Thread nD τ) (outOwn c i) ∗ todoO c (i + 1)) := by unfold todoO; rw [fam_take _ h]
theorem todoX_take {i : ℕ} (h : i < 32) : (todoX c i : sProp 𝕄) = iprop(ownsAny (c : Thread nD τ) (outOth c i) ∗ todoX c (i + 1)) := by unfold todoX; rw [fam_take _ h]
theorem todoP_nil {i : ℕ} (h : 32 ≤ i) : todoP m c i = iprop(emp) := by unfold todoP; rw [fam_nil _ h]
theorem todoR_nil {i : ℕ} (h : 32 ≤ i) : todoR m c i = iprop(emp) := by unfold todoR; rw [fam_nil _ h]
theorem doneP_put (i : ℕ) : doneP m c (i + 1) = iprop(pieceP m c i ∗ doneP m c i) := by unfold doneP; rw [fam_put _ (Nat.zero_le _)]
theorem doneR_put (i : ℕ) : doneR m c (i + 1) = iprop(pieceR m c i ∗ doneR m c i) := by unfold doneR; rw [fam_put _ (Nat.zero_le _)]
theorem doneO_put (i : ℕ) : doneO m c (i + 1) = iprop(pieceO m c i ∗ doneO m c i) := by unfold doneO; rw [fam_put _ (Nat.zero_le _)]
theorem doneX_put (i : ℕ) : doneX m c (i + 1) = iprop(pieceX m c i ∗ doneX m c i) := by unfold doneX; rw [fam_put _ (Nat.zero_le _)]

/-! ## Step A -/

theorem YF_two (i : ℕ) : (YF c (i + 2) : sProp 𝕄) = flight c (sem2 cc0_scratch11 (par i)) N (ownsAny (c : Thread nD τ) (slot2 own16 (par i))) := by
  unfold YF; rw [if_neg (by omega), par_add2]
theorem YI_two (i : ℕ) : (YI c (i + 2) : sProp 𝕄) = YI c i := by unfold YI; rw [par_add2]

theorem tri_doneY (i b b' : ℕ) : Tri c iprop(YF c (i + 2) ∗ debt c b b' ∗ recs m K) (waitYS i) iprop(YI c (i + 2) ∗ debt c b b') := by
  rw [YF_two, YI_two]
  refine (tri_waitYS m K c i b b' _).mono .rfl ?_
  unfold YI
  iintro ⟨H, Hz, HO⟩
  isplitl [H Hz]; · isplitl [H] <;> iassumption
  iexact HO

theorem tri_freeY (i b b' : ℕ) : Tri c iprop(YF c (i + 1) ∗ debt c b b' ∗ recs m K) (if 1 ≤ i then waitYS (i - 1) else pure ⟨⟩) iprop(YI c (i + 1) ∗ debt c b b') := by
  refine Tri.ite (fun h => ?_) (fun h => ?_)
  · obtain ⟨j, rfl⟩ : ∃ j, i = j + 1 := ⟨i - 1, by omega⟩
    exact tri_doneY m K c j b b'
  · unfold YF; rw [if_pos (by omega)]
    iintro ⟨H, HO, -⟩
    isplitl [H] <;> iassumption

/-- Round a loaded chunk and send it across `y`. -/
theorem tri_castSend (n b' : ℕ) (h : n < 32) :
    Tri c iprop(PH m c n ∗ YI c n ∗ toks false c n ∗ rights false c n ∗ heldY c n ∗ debt c n b' ∗ recs m K)
      (castP n >>= fun _ => sendY c n)
      iprop(PH m c n ∗ YF c (n + 2) ∗ toks false c (n + 1) ∗ gap false c (n + 1) ∗ heldY' c n ∗ debt c (n + 1) b') := by
  intro α k Q
  rw [toks_take false c h, rights_take false c h, YF_two, bind_assoc]
  unfold PH YI
  rw [if_pos h]
  iintro ⟨⟨HP, Hzp⟩, ⟨HY, Hz⟩, ⟨Ht, Hts⟩, ⟨Hr, Hrs⟩, Hh, HO, #Hrec⟩ Hk
  ihave Hh := (heldY_take c n) $$ Hh
  icases Hh with ⟨HZ, Hh⟩
  iapply (tri_castP m c n).run $$ [HP HY]
  · isplitl [HP] <;> iassumption
  iintro ⟨HP, HY⟩
  iapply (tri_sendY m K c n b' h fullShare).run $$ [HY Hr Hz HO Ht HZ]
  · isplitl [HY]; · iexact HY
    isplitl [Hr]; · iexact Hr
    isplitl [Hz]; · iexact Hz
    isplitl [HO]; · iexact HO
    isplitr; · iexact Hrec
    isplitl [Ht] <;> iassumption
  iintro ⟨HF, HO⟩
  iapply Hk
  isplitl [HP Hzp]
  · isplitl [HP] <;> iassumption
  isplitl [HF]
  · iapply (Flight_mono EC (c : Thread nD τ) (ownsAny_intro (c : Thread nD τ) (slot2 own16 (par n)) (Yv m c n)))
    iexact HF
  isplitl [Hts]; · iexact Hts
  isplitl [Hrs]; · iexact Hrs
  isplitl [Hh] <;> iassumption

theorem tri_inP (n b b' : ℕ) (h : n < 32) : Tri c iprop(PF m c n ∗ doneP m c n ∗ debt c b b' ∗ recs m K) (waitP c n) iprop(PH m c n ∗ doneP m c (n + 1) ∗ debt c b b') := by
  intro α k Q
  rw [doneP_put]
  unfold PF PH
  rw [if_pos h, if_pos h]
  iintro ⟨HF, HD, HO, #Hrec⟩ Hk
  iapply (tri_waitP m K c n b b' _).run $$ [HF HO]
  · isplitl [HF]; · iexact HF
    isplitl [HO]; · iexact HO
    iexact Hrec
  iintro ⟨⟨H, Hs⟩, Hz, HO⟩
  iapply Hk
  isplitl [H Hz]; · isplitl [H] <;> iassumption
  isplitl [Hs HD]; · isplitl [Hs] <;> iassumption
  iexact HO

theorem stepA_eq (i : ℕ) : stepA (F := F) c i = if i + 1 < 32 then
      (waitP c (i + 1) >>= fun _ => (if 1 ≤ i then waitYS (i - 1) else pure ⟨⟩) >>= fun _ => castP (i + 1) >>= fun _ => sendY c (i + 1)) else pure ⟨⟩ := by
  unfold stepA
  by_cases h : 1 ≤ i
  · simp only [if_pos h]
  · simp only [if_neg h, pure_bind]

theorem tri_stepA (i b' : ℕ) (h : i < 32) :
    Tri c iprop(PF m c (i + 1) ∗ doneP m c (min (i + 1) 32) ∗ YF c (min (i + 1) 32) ∗ YF c (min (i + 2) 33) ∗ toks false c (i + 1) ∗ rights false c (i + 1) ∗ heldY c (i + 1) ∗ debt c (i + 1) b' ∗ recs m K)
      (stepA c i)
      iprop(PH m c (i + 1) ∗ doneP m c (min (i + 2) 32) ∗ YF c (min (i + 2) 32) ∗ YF c (min (i + 3) 33) ∗ toks false c (i + 2) ∗ gap false c (i + 2) ∗ heldY' c (i + 1) ∗ debt c (i + 2) b') := by
  rw [stepA_eq]
  refine Tri.ite (fun h1 => ?_) (fun h1 => ?_)
  · intro α k Q
    rw [show min (i + 1) 32 = i + 1 by omega, show min (i + 2) 33 = i + 2 by omega, show min (i + 2) 32 = i + 2 by omega, show min (i + 3) 33 = i + 3 by omega]
    simp only [bind_assoc]
    iintro ⟨HF, HD, HY, HY2, Ht, Hr, Hh, HO, #Hrec⟩ Hk
    iapply (tri_inP m K c (i + 1) (i + 1) b' h1).run $$ [HF HD HO]
    · isplitl [HF]; · iexact HF
      isplitl [HD]; · iexact HD
      isplitl [HO]; · iexact HO
      iexact Hrec
    iintro ⟨HP, HD, HO⟩
    iapply (tri_freeY m K c i (i + 1) b').run $$ [HY HO]
    · isplitl [HY]; · iexact HY
      isplitl [HO]; · iexact HO
      iexact Hrec
    iintro ⟨HY, HO⟩
    rw [← bind_assoc]
    iapply (tri_castSend m K c (i + 1) b' h1).run $$ [HP HY Ht Hr Hh HO]
    · isplitl [HP]; · iexact HP
      isplitl [HY]; · iexact HY
      isplitl [Ht]; · iexact Ht
      isplitl [Hr]; · iexact Hr
      isplitl [Hh]; · iexact Hh
      isplitl [HO]; · iexact HO
      iexact Hrec
    iintro ⟨HP, HY, Ht, Hr, Hh, HO⟩
    iapply Hk
    isplitl [HP]; · iexact HP
    isplitl [HD]; · iexact HD
    isplitl [HY2]; · iexact HY2
    isplitl [HY]; · iexact HY
    isplitl [Ht]; · iexact Ht
    isplitl [Hr]; · iexact Hr
    isplitl [Hh] <;> iassumption
  · obtain rfl : i = 31 := by omega
    iintro ⟨HF, HD, HY, HY2, Ht, Hr, Hh, HO, -⟩
    isplitl [HF]
    · unfold PF PH; rw [if_neg h1, if_neg h1]; exact .rfl
    isplitl [HD]; · iexact HD
    isplitl [HY]; · iexact HY
    isplitl [HY2]; · iexact HY2
    isplitl [Ht]
    · unfold toks; rw [fam_nil (a := 31 + 1) (b := 32) _ (by decide)]; rw [fam_nil (a := 31 + 2) (b := 32) _ (by decide)]; exact .rfl
    isplitl [Hr]
    · unfold rights gap; rw [fam_nil (a := 31 + 1) _ (by decide), fam_nil (a := 31 + 2) _ (by decide)]; exact .rfl
    isplitl [Hh]
    · ihave Hh := (heldY_take c (31 + 1)) $$ Hh
      icases Hh with ⟨-, Hh⟩
      iexact Hh
    unfold debt due
    rw [ow_end false c (31 + 1) (by decide), ow_end false c (31 + 2) (by decide)]
    iexact HO

end Cert.KernelIdeal.Hand
-- ==== Proof.LoopIdeal.lean ====
module

public import proofs.«01_k».proof.Proof.StepsIdeal

/-!
The remaining steps of a chunk, and the loop over the chunks.
-/

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : Dev nD × Cell → ℕ) (c : Dev nD) (gM : Memref sig .tc .vmem S2048 .f32)

/-! ## Step B -/

/-- The residual chunk in. -/
def RH (n : ℕ) : sProp 𝕄 := iprop(owns (c : Thread nD τ) (slot2 resV (par n)) fullShare (Rv m c n) ∗ zero c (sem2 cc0_scratch8 (par n)))

theorem freed_intro (a : Bool) (i : ℕ) (X : Vec F S128x2048 .bf16) :
    (iprop(owns (c : Thread nD τ) (lslot a i) fullShare X ∗ come a c (i + 4)) : sProp 𝕄) ⊢ freed a c (i + 4) := by
  unfold freed
  rw [lslot_add4]
  exact sep_mono_left (ownsAny_intro (c : Thread nD τ) (lslot a i) X)

theorem tri_stepB (i b' : ℕ) (h : i < 32) (hb' : i ≤ b') :
    Tri c iprop(creds false c i ∗ poss false c i ∗ debt c (i + 2) b' ∗ recs m K ∗ RF m c i ∗ doneR m c i ∗ PH m c i
        ∗ owns (c : Thread nD τ) gM fullShare (gv m c) ∗ ownsAny (c : Thread nD τ) outV ∗ gap false c (i + 2) ∗ heldY' c (i + 1))
      (stepB gM c i)
      iprop(creds false c (i + 1) ∗ poss false c (i + 1) ∗ debt c (i + 2) b' ∗ RH m c i ∗ doneR m c (i + 1) ∗ PH m c i
        ∗ owns (c : Thread nD τ) gM fullShare (gv m c) ∗ owns (c : Thread nD τ) outV fullShare (Ov m c i) ∗ rights false c (i + 2) ∗ heldY c (i + 2)) := by
  intro α k Q
  obtain ⟨P, e1, e2⟩ := poss_step (F := F) false c i
  rw [creds_take false c h, e1, e2, doneR_put]
  unfold stepB RF PH RH
  rw [if_pos h, if_pos h]
  simp only [bind_assoc]
  iintro ⟨⟨Hc, Hcs⟩, ⟨Hp, Hps⟩, HO, #Hrec, HR, HD, ⟨HP, Hz⟩, Hg, Hout, Hgap, Hh⟩ Hk
  iapply (tri_waitYR m K c i (i + 2) b' h (by omega) (by omega)).run $$ [Hc Hp HO]
  · isplitl [Hc]; · iexact Hc
    isplitl [Hp]; · iexact Hp
    isplitl [HO]; · iexact HO
    iexact Hrec
  unfold pay
  iintro ⟨⟨HY, HZ⟩, Hp, Hcome, HO⟩
  iapply (tri_waitR m K c i (i + 2) b' _).run $$ [HR HO]
  · isplitl [HR]; · iexact HR
    isplitl [HO]; · iexact HO
    iexact Hrec
  iintro ⟨⟨HR, Hsrc⟩, Hzr, HO⟩
  iapply (tri_norm m c gM i).run $$ [HP HY HR Hg Hout]
  · isplitl [HP]; · iexact HP
    isplitl [HY]; · iexact HY
    isplitl [HR]; · iexact HR
    isplitl [Hg] <;> iassumption
  iintro ⟨HP, HY, HR, Hg, Hout⟩
  iapply Hk
  isplitl [Hcs]; · iexact Hcs
  isplitl [Hp Hps]; · isplitl [Hp] <;> iassumption
  isplitl [HO]; · iexact HO
  isplitl [HR Hzr]; · isplitl [HR] <;> iassumption
  isplitl [Hsrc HD]; · isplitl [Hsrc] <;> iassumption
  isplitl [HP Hz]; · isplitl [HP] <;> iassumption
  isplitl [Hg]; · iexact Hg
  isplitl [Hout]; · iexact Hout
  isplitl [Hgap HZ]
  · iapply (gap_close false c i)
    isplitl [Hgap]; · iexact Hgap
    iexact HZ
  iapply (heldY_put c (i + 1) (by omega))
  isplitl [HY Hcome]
  · iapply (freed_intro c false i (Yv m (ynbr c) i))
    isplitl [HY]; · iexact HY
    iexact Hcome
  iexact Hh

/-! ## Step C -/

theorem XF_two (i : ℕ) : XF m c (i + 2) =
    iprop(flight c (sem2 cc0_scratch13 (par i)) N (owns (c : Thread nD τ) (slot2 out16 (par i)) fullShare.right (Bv m c i))
      ∗ flight c (sem2 cc0_scratch9 (par i)) N iprop(pieceO m c i ∗ owns (c : Thread nD τ) (slot2 out16 (par i)) fullShare.left (Bv m c i))) := by
  unfold XF; rw [if_neg (by omega), par_add2, Nat.add_sub_cancel]
theorem XI_two (i : ℕ) : (XI c (i + 2) : sProp 𝕄) = XI c i := by unfold XI; rw [par_add2]
theorem XS_two (i : ℕ) : XS m c (i + 2) =
    iprop(flight c (sem2 cc0_scratch10 (par i)) N iprop(pieceX m c i ∗ owns (c : Thread nD τ) (slot4 recX (quad i)) fullShare (Bv m (xnbr c) i)) ∗ come true c (i + 4)) := by
  unfold XS; rw [if_neg (by omega), par_add2, Nat.add_sub_cancel]

/-- The store and the send of a chunk share its slot, each by half. -/
theorem joinX (i : ℕ) : iprop(owns (c : Thread nD τ) (slot2 out16 (par i)) fullShare.left (Bv m c i) ∗ owns (c : Thread nD τ) (slot2 out16 (par i)) fullShare.right (Bv m c i))
    ⊢ (ownsAny (c : Thread nD τ) (slot2 out16 (par i)) : sProp 𝕄) :=
  (owns_halves (c : Thread nD τ) (slot2 out16 (par i)) fullShare (Bv m c i)).2.trans (ownsAny_intro (c : Thread nD τ) (slot2 out16 (par i)) (Bv m c i))

/-- Wait for a chunk to have been stored. -/
theorem tri_inX (i b b' : ℕ) : Tri c iprop(XS m c (i + 2) ∗ debt c b b' ∗ recs m K) (waitX c i)
    iprop(zero c (sem2 cc0_scratch10 (par i)) ∗ freed true c (i + 4) ∗ pieceX m c i ∗ debt c b b') := by
  intro α k Q
  rw [XS_two]
  iintro ⟨⟨HF, Hcome⟩, HO, #Hrec⟩ Hk
  iapply (tri_waitX m K c i b b' _).run $$ [HF HO]
  · isplitl [HF]; · iexact HF
    isplitl [HO]; · iexact HO
    iexact Hrec
  iintro ⟨⟨Hp, Hs⟩, Hz, HO⟩
  iapply Hk
  isplitl [Hz]; · iexact Hz
  isplitl [Hs Hcome]
  · iapply (freed_intro c true i (Bv m (xnbr c) i))
    isplitl [Hs]; · iexact Hs
    iexact Hcome
  isplitl [Hp] <;> iassumption

theorem tri_freeX (i b b' : ℕ) (h : i < 32) :
    Tri c iprop(XF m c i ∗ XS m c i ∗ heldX c i ∗ doneO m c (i - 2) ∗ doneX m c (i - 2) ∗ debt c b b' ∗ recs m K)
      (if 2 ≤ i then waitXS (i - 2) >>= fun _ => waitO c (i - 2) >>= fun _ => waitX c (i - 2) else pure ⟨⟩)
      iprop(XI c i ∗ zero c (sem2 cc0_scratch10 (par i)) ∗ along true c i ∗ heldX c (i + 1) ∗ doneO m c (i - 1) ∗ doneX m c (i - 1) ∗ debt c b b') := by
  refine Tri.ite (fun h2 => ?_) (fun h2 => ?_)
  · obtain ⟨j, rfl⟩ : ∃ j, i = j + 2 := ⟨i - 2, by omega⟩
    rw [show j + 2 - 2 = j by omega, show j + 2 - 1 = j + 1 by omega, XF_two, XI_two, par_add2, doneO_put, doneX_put]
    intro α k Q
    simp only [bind_assoc]
    unfold XI
    iintro ⟨⟨HF, HF'⟩, HS, Hh, HDO, HDX, HO, #Hrec⟩ Hk
    iapply (tri_waitXS m K c j b b' _).run $$ [HF HO]
    · isplitl [HF]; · iexact HF
      isplitl [HO]; · iexact HO
      iexact Hrec
    iintro ⟨Hr, Hz, HO⟩
    iapply (tri_waitO m K c j b b' _).run $$ [HF' HO]
    · isplitl [HF']; · iexact HF'
      isplitl [HO]; · iexact HO
      iexact Hrec
    iintro ⟨⟨Hp, Hl⟩, Hz', HO⟩
    iapply (tri_inX m K c j b b').run $$ [HS HO]
    · isplitl [HS]; · iexact HS
      isplitl [HO]; · iexact HO
      iexact Hrec
    iintro ⟨Hz'', Hf, Hp', HO⟩
    ihave Hh := (heldX_step c j) $$ [Hh Hf]
    · isplitl [Hh] <;> iassumption
    icases Hh with ⟨Hal, Hh⟩
    iapply Hk
    isplitl [Hr Hl Hz Hz']
    · isplitl [Hr Hl]
      · iapply (joinX m c j); isplitl [Hl] <;> iassumption
      isplitl [Hz] <;> iassumption
    isplitl [Hz'']; · iexact Hz''
    isplitl [Hal]; · iexact Hal
    isplitl [Hh]; · iexact Hh
    isplitl [Hp HDO]; · isplitl [Hp] <;> iassumption
    isplitl [Hp' HDX]; · isplitl [Hp'] <;> iassumption
    iexact HO
  · rw [show i - 2 = 0 by omega, show i - 1 = 0 by omega]
    unfold XF XS
    rw [if_pos (by omega), if_pos (by omega)]
    iintro ⟨HI, Hz, Hh, HDO, HDX, HO, -⟩
    ihave Hh := (heldX_skip c i (by omega)) $$ Hh
    icases Hh with ⟨Hal, Hh⟩
    isplitl [HI]; · iexact HI
    isplitl [Hz]; · iexact Hz
    isplitl [Hal]; · iexact Hal
    isplitl [Hh]; · iexact Hh
    isplitl [HDO]; · iexact HDO
    isplitl [HDX] <;> iassumption

theorem stepC_eq (i : ℕ) : stepC (F := F) c i =
    ((if 2 ≤ i then waitXS (i - 2) >>= fun _ => waitO c (i - 2) >>= fun _ => waitX c (i - 2) else pure ⟨⟩) >>= fun _ => castO i >>= fun _ => storeO c i >>= fun _ => sendX c i) := by
  unfold stepC
  by_cases h : 2 ≤ i
  · simp only [if_pos h, bind_assoc]
  · simp only [if_neg h, pure_bind]

theorem tri_stepC (i b : ℕ) (h : i < 32) :
    Tri c iprop(XF m c i ∗ XS m c i ∗ heldX c i ∗ doneO m c (i - 2) ∗ doneX m c (i - 2) ∗ debt c b i ∗ recs m K
        ∗ owns (c : Thread nD τ) outV fullShare (Ov m c i) ∗ toks true c i ∗ rights true c i ∗ todoO c i)
      (stepC c i)
      iprop(XF m c (i + 2) ∗ zero c (sem2 cc0_scratch10 (par i)) ∗ heldX c (i + 1) ∗ doneO m c (i - 1) ∗ doneX m c (i - 1) ∗ debt c b (i + 1)
        ∗ ownsAny (c : Thread nD τ) outV ∗ toks true c (i + 1) ∗ gap true c (i + 1) ∗ todoO c (i + 1)) := by
  intro α k Q
  rw [stepC_eq, toks_take true c h, rights_take true c h, todoO_take c h, XF_two]
  simp only [bind_assoc]
  iintro ⟨HF, HS, Hh, HDO, HDX, HO, #Hrec, Hout, ⟨Ht, Hts⟩, ⟨Hr, Hrs⟩, ⟨Hd, Hds⟩⟩ Hk
  iapply (tri_freeX m K c i b i h).run $$ [HF HS Hh HDO HDX HO]
  · isplitl [HF]; · iexact HF
    isplitl [HS]; · iexact HS
    isplitl [Hh]; · iexact Hh
    isplitl [HDO]; · iexact HDO
    isplitl [HDX]; · iexact HDX
    isplitl [HO]; · iexact HO
    iexact Hrec
  unfold XI
  iintro ⟨⟨H16, Hzx, Hzs⟩, Hzxs, Hal, Hh, HDO, HDX, HO⟩
  iapply (tri_castO m c i).run $$ [Hout H16]
  · isplitl [Hout] <;> iassumption
  iintro ⟨Hout, H16⟩
  ihave H16 := (owns_halves (c : Thread nD τ) (slot2 out16 (par i)) fullShare (Bv m c i)).1 $$ H16
  icases H16 with ⟨Hl, Hrt⟩
  iapply (tri_storeO c i fullShare.left (Bv m c i)).run $$ [Hl Hd Hzs]
  · isplitl [Hl]; · iexact Hl
    isplitl [Hd] <;> iassumption
  iintro HF'
  iapply (tri_sendX m K c i b h fullShare.right).run $$ [Hrt Hr Hzx HO Ht Hal]
  · isplitl [Hrt]; · iexact Hrt
    isplitl [Hr]; · iexact Hr
    isplitl [Hzx]; · iexact Hzx
    isplitl [HO]; · iexact HO
    isplitr; · iexact Hrec
    isplitl [Ht] <;> iassumption
  iintro ⟨HF, HO⟩
  iapply Hk
  isplitl [HF HF']; · isplitl [HF] <;> iassumption
  isplitl [Hzxs]; · iexact Hzxs
  isplitl [Hh]; · iexact Hh
  isplitl [HDO]; · iexact HDO
  isplitl [HDX]; · iexact HDX
  isplitl [HO]; · iexact HO
  isplitl [Hout]; · iexact Hout
  isplitl [Hts]; · iexact Hts
  isplitl [Hrs] <;> iassumption

/-! ## Step D -/

theorem PI_two (i : ℕ) : (PI c (i + 2) : sProp 𝕄) = PI c i := by unfold PI; rw [par_add2]
theorem RI_two (i : ℕ) : (RI c (i + 2) : sProp 𝕄) = RI c i := by unfold RI; rw [par_add2]

theorem tri_start (n : ℕ) (h : n < 32) :
    Tri c iprop(PI c n ∗ RI c n ∗ todoP m c n ∗ todoR m c n) (loadP c n >>= fun _ => loadR c n) iprop(PF m c n ∗ RF m c n ∗ todoP m c (n + 1) ∗ todoR m c (n + 1)) := by
  intro α k Q
  rw [todoP_take m c h, todoR_take m c h, bind_assoc]
  unfold PI RI PF RF
  rw [if_pos h, if_pos h]
  iintro ⟨⟨HP, Hz⟩, ⟨HR, Hz'⟩, ⟨Hs, Hss⟩, ⟨Hs', Hss'⟩⟩ Hk
  iapply (tri_loadP m c n).run $$ [Hs HP Hz]
  · isplitl [Hs]; · iexact Hs
    isplitl [HP] <;> iassumption
  iintro HF
  iapply (tri_loadR m c n).run $$ [Hs' HR Hz']
  · isplitl [Hs']; · iexact Hs'
    isplitl [HR] <;> iassumption
  iintro HF'
  iapply Hk
  isplitl [HF]; · iexact HF
  isplitl [HF']; · iexact HF'
  isplitl [Hss] <;> iassumption

theorem PH_idle (i : ℕ) : PH m c i ⊢ (PI c i : sProp 𝕄) := by
  unfold PH
  by_cases h : i < 32
  · rw [if_pos h]; exact sep_mono_left (ownsAny_intro (c : Thread nD τ) (slot2 own32 (par i)) (Pv m c i))
  · rw [if_neg h]
theorem RH_idle (i : ℕ) : RH m c i ⊢ (RI c i : sProp 𝕄) := by
  unfold RH
  exact sep_mono_left (ownsAny_intro (c : Thread nD τ) (slot2 resV (par i)) (Rv m c i))

theorem tri_stepD (i : ℕ) :
    Tri c iprop(PH m c i ∗ RH m c i ∗ todoP m c (i + 2) ∗ todoR m c (i + 2)) (stepD c i) iprop(PF m c (i + 2) ∗ RF m c (i + 2) ∗ todoP m c (i + 3) ∗ todoR m c (i + 3)) := by
  have idle : iprop(PH m c i ∗ RH m c i ∗ todoP m c (i + 2) ∗ todoR m c (i + 2)) ⊢ iprop(PI c (i + 2) ∗ RI c (i + 2) ∗ todoP m c (i + 2) ∗ todoR m c (i + 2)) := by
    rw [PI_two, RI_two]
    exact BIClass.sep_mono (PH_idle m c i) (sep_mono_left (RH_idle m c i))
  unfold stepD
  refine Tri.ite (fun h => (tri_start m c (i + 2) h).mono idle .rfl) (fun h => idle.trans ?_)
  unfold PF RF
  rw [if_neg h, if_neg h, todoP_nil m c (by omega), todoR_nil m c (by omega), todoP_nil m c (by omega), todoR_nil m c (by omega)]

/-! ## Step E -/

theorem tri_takeX (i b b' : ℕ) (h : i < 32) (hb : i + 1 ≤ b) (hb' : i < b') :
    Tri c iprop(creds true c i ∗ poss true c i ∗ debt c b b' ∗ recs m K ∗ todoX c i ∗ zero c (sem2 cc0_scratch10 (par i)) ∗ gap true c (i + 2))
      (takeX c i)
      iprop(creds true c (i + 1) ∗ poss true c (i + 1) ∗ debt c b b' ∗ todoX c (i + 1) ∗ XS m c (i + 2) ∗ rights true c (i + 2)) := by
  intro α k Q
  obtain ⟨P, e1, e2⟩ := poss_step (F := F) true c i
  rw [creds_take true c h, e1, e2, todoX_take c h, XS_two]
  unfold takeX
  simp only [bind_assoc]
  iintro ⟨⟨Hc, Hcs⟩, ⟨Hp, Hps⟩, HO, #Hrec, ⟨Hd, Hds⟩, Hz, Hgap⟩ Hk
  iapply (tri_waitXR m K c i b b' h (by omega) (by omega)).run $$ [Hc Hp HO]
  · isplitl [Hc]; · iexact Hc
    isplitl [Hp]; · iexact Hp
    isplitl [HO]; · iexact HO
    iexact Hrec
  unfold pay
  iintro ⟨⟨HY, HZ⟩, Hp, Hcome, HO⟩
  iapply (tri_storeX c i fullShare (Bv m (xnbr c) i)).run $$ [HY Hd Hz]
  · isplitl [HY]; · iexact HY
    isplitl [Hd] <;> iassumption
  iintro HF
  iapply Hk
  isplitl [Hcs]; · iexact Hcs
  isplitl [Hp Hps]; · isplitl [Hp] <;> iassumption
  isplitl [HO]; · iexact HO
  isplitl [Hds]; · iexact Hds
  isplitl [HF Hcome]; · isplitl [HF] <;> iassumption
  iapply (gap_close true c i)
  isplitl [Hgap]; · iexact Hgap
  iexact HZ

theorem tri_stepE (i b b' : ℕ) (h : i < 32) (hb : i ≤ b) (hb' : i ≤ b') :
    Tri c iprop(creds true c (i - 1) ∗ poss true c (i - 1) ∗ debt c b b' ∗ recs m K ∗ todoX c (i - 1) ∗ zero c (sem2 cc0_scratch10 (par (i + 1))) ∗ gap true c (i + 1))
      (stepE c i)
      iprop(creds true c i ∗ poss true c i ∗ debt c b b' ∗ todoX c i ∗ XS m c (i + 1) ∗ rights true c (i + 1)) := by
  unfold stepE
  refine Tri.ite (fun h1 => ?_) (fun h1 => ?_)
  · obtain ⟨j, rfl⟩ : ∃ j, i = j + 1 := ⟨i - 1, by omega⟩
    rw [show j + 1 - 1 = j by omega, show j + 1 + 1 = j + 2 by omega, par_add2]
    exact tri_takeX m K c j b b' (by omega) (by omega) (by omega)
  · obtain rfl : i = 0 := by omega
    iintro ⟨Hc, Hp, HO, -, Hd, Hz, Hgap⟩
    isplitl [Hc]; · iexact Hc
    isplitl [Hp]; · iexact Hp
    isplitl [HO]; · iexact HO
    isplitl [Hd]; · iexact Hd
    isplitl [Hz]; · unfold XS; rw [if_pos (by decide)]; iexact Hz
    iapply (gap_one true c); iexact Hgap

/-! ## The loop -/

/-- What device `c` holds before chunk `i`. -/
def Inv (i : ℕ) : sProp 𝕄 :=
  iprop(debt c (i + 1) i ∗ toks false c (i + 1) ∗ rights false c (i + 1) ∗ heldY c (i + 1) ∗ creds false c i ∗ poss false c i
    ∗ YF c (min (i + 1) 32) ∗ YF c (min (i + 2) 33)
    ∗ toks true c i ∗ rights true c i ∗ heldX c i ∗ creds true c (i - 1) ∗ poss true c (i - 1)
    ∗ XF m c i ∗ XF m c (i + 1) ∗ XS m c i ∗ zero c (sem2 cc0_scratch10 (par (i + 1)))
    ∗ PH m c i ∗ PF m c (i + 1) ∗ RF m c i ∗ RF m c (i + 1)
    ∗ todoP m c (i + 2) ∗ doneP m c (min (i + 1) 32) ∗ todoR m c (i + 2) ∗ doneR m c i
    ∗ todoO c i ∗ doneO m c (i - 2) ∗ todoX c (i - 1) ∗ doneX m c (i - 2)
    ∗ ownsAny (c : Thread nD τ) outV ∗ owns (c : Thread nD τ) gM fullShare (gv m c))

theorem tri_iter (i : ℕ) (h : i < 32) : Tri c iprop(Inv m c gM i ∗ recs m K) (iter gM c i) iprop(Inv m c gM (i + 1) ∗ recs m K) := by
  intro α k Q
  unfold iter Inv
  simp only [bind_assoc]
  iintro ⟨⟨HO, Hty, Hry, Hhy, Hcy, Hpy, HY, HY', Htx, Hrx, Hhx, Hcx, Hpx, HX, HX', HS, Hzx, HP, HPF, HR, HR', HtP, HdP, HtR, HdR, HtO, HdO, HtX, HdX, Hout, Hg⟩, #Hrec⟩ Hk
  iapply (tri_stepA m K c i i h).run $$ [HPF HdP HY HY' Hty Hry Hhy HO]
  · isplitl [HPF]; · iexact HPF
    isplitl [HdP]; · iexact HdP
    isplitl [HY]; · iexact HY
    isplitl [HY']; · iexact HY'
    isplitl [Hty]; · iexact Hty
    isplitl [Hry]; · iexact Hry
    isplitl [Hhy]; · iexact Hhy
    isplitl [HO]; · iexact HO
    iexact Hrec
  iintro ⟨HP', HdP, HY, HY', Hty, Hry, Hhy, HO⟩
  iapply (tri_stepB m K c gM i i h le_rfl).run $$ [Hcy Hpy HO HR HdR HP Hg Hout Hry Hhy]
  · isplitl [Hcy]; · iexact Hcy
    isplitl [Hpy]; · iexact Hpy
    isplitl [HO]; · iexact HO
    isplitr; · iexact Hrec
    isplitl [HR]; · iexact HR
    isplitl [HdR]; · iexact HdR
    isplitl [HP]; · iexact HP
    isplitl [Hg]; · iexact Hg
    isplitl [Hout]; · iexact Hout
    isplitl [Hry] <;> iassumption
  iintro ⟨Hcy, Hpy, HO, HR, HdR, HP, Hg, Hout, Hry, Hhy⟩
  iapply (tri_stepC m K c i (i + 2) h).run $$ [HX HS Hhx HdO HdX HO Hout Htx Hrx HtO]
  · isplitl [HX]; · iexact HX
    isplitl [HS]; · iexact HS
    isplitl [Hhx]; · iexact Hhx
    isplitl [HdO]; · iexact HdO
    isplitl [HdX]; · iexact HdX
    isplitl [HO]; · iexact HO
    isplitr; · iexact Hrec
    isplitl [Hout]; · iexact Hout
    isplitl [Htx]; · iexact Htx
    isplitl [Hrx] <;> iassumption
  iintro ⟨HX, Hz, Hhx, HdO, HdX, HO, Hout, Htx, Hrx, HtO⟩
  iapply (tri_stepD m c i).run $$ [HP HR HtP HtR]
  · isplitl [HP]; · iexact HP
    isplitl [HR]; · iexact HR
    isplitl [HtP] <;> iassumption
  iintro ⟨HPF, HR, HtP, HtR⟩
  iapply (tri_stepE m K c i (i + 2) (i + 1) h (by omega) (by omega)).run $$ [Hcx Hpx HO HtX Hzx Hrx]
  · isplitl [Hcx]; · iexact Hcx
    isplitl [Hpx]; · iexact Hpx
    isplitl [HO]; · iexact HO
    isplitr; · iexact Hrec
    isplitl [HtX]; · iexact HtX
    isplitl [Hzx] <;> iassumption
  iintro ⟨Hcx, Hpx, HO, HtX, HS, Hrx⟩
  iapply Hk
  isplitl
  · isplitl [HO]; · iexact HO
    isplitl [Hty]; · iexact Hty
    isplitl [Hry]; · iexact Hry
    isplitl [Hhy]; · iexact Hhy
    isplitl [Hcy]; · iexact Hcy
    isplitl [Hpy]; · iexact Hpy
    isplitl [HY]; · iexact HY
    isplitl [HY']; · iexact HY'
    isplitl [Htx]; · iexact Htx
    isplitl [Hrx]; · iexact Hrx
    isplitl [Hhx]; · iexact Hhx
    isplitl [Hcx]; · iexact Hcx
    isplitl [Hpx]; · iexact Hpx
    isplitl [HX']; · iexact HX'
    isplitl [HX]; · iexact HX
    isplitl [HS]; · iexact HS
    isplitl [Hz]; · rw [show i + 1 + 1 = i + 2 by omega, par_add2]; iexact Hz
    isplitl [HP']; · iexact HP'
    isplitl [HPF]; · iexact HPF
    isplitl [HR']; · iexact HR'
    isplitl [HR]; · iexact HR
    isplitl [HtP]; · iexact HtP
    isplitl [HdP]; · iexact HdP
    isplitl [HtR]; · iexact HtR
    isplitl [HdR]; · iexact HdR
    isplitl [HtO]; · iexact HtO
    isplitl [HdO]; · rw [show i + 1 - 2 = i - 1 by omega]; iexact HdO
    isplitl [HtX]; · iexact HtX
    isplitl [HdX]; · rw [show i + 1 - 2 = i - 1 by omega]; iexact HdX
    isplitl [Hout] <;> iassumption
  · iexact Hrec

theorem tri_loop (n i : ℕ) (h : i + n = 32) : Tri c iprop(Inv m c gM i ∗ recs m K) (loop gM c n i) iprop(Inv m c gM 32 ∗ recs m K) := by
  induction n generalizing i with
  | zero => obtain rfl : i = 32 := by omega
            exact Tri.skip
  | succ n ih => exact (tri_iter m K c gM i (by omega)).seq (ih (i + 1) (by omega))

end Cert.KernelIdeal.Hand
-- ==== Proof.EndsIdeal.lean ====
module

public import proofs.«01_k».proof.Proof.LoopIdeal

/-!
The two ends of the kernel: the handshake and the first chunk before the loop, and the last transfers after it.
-/

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : Dev nD × Cell → ℕ) (c : Dev nD) (gM : Memref sig .tc .vmem S2048 .f32)

/-! ## The handshake -/

theorem tri_signal (a : Bool) (O : CellTallies nD τ sig ℕ) :
    Tri c iprop((∃ W, owes (c : Thread nD τ) (O + tallyAt (barCell (nbr a c)) 0 1) W) ∗ dutyTok ER (barCell (nbr a c)) 0 a
        ∗ reached ER (barCell (nbr a c)) 0 ∗ barPay a (nbr a c) ∗ recs m K)
      (semSignalWord (nbr a c) barS 1#32) (iprop(∃ W, owes (c : Thread nD τ) O W)) := by
  intro α k Q
  simp only [semSignalWord, Prog.bind_op, Prog.bind_ret]
  iintro ⟨⟨%W, HO⟩, Ht, Hr, Hp, #Hrec⟩ Hk
  iapply (Rounds.wp_signal 𝒱₀ ER (sched m) (c : Thread nD τ) none (dst := (nbr a c : Thread nD τ)) (κ := K (nbr a c, none))
      (d := a) (by rw [duties_bar]; exact Finset.mem_univ _) ((amount_bar m (nbr a c) a).trans (by decide)) 0 O rfl (by routes)) $$ [HO Ht Hr Hp]
  · isplitr; · iapply (recs_bar m K (nbr a c)); iexact Hrec
    isplitl [HO]; · iexact HO
    isplitl [Ht]; · iexact Ht
    isplitl [Hp]; · rw [payload_bar]; iexact Hp
    iexact Hr
  iintro HO
  iapply Hk
  iexists W
  iexact HO

theorem tri_barrier :
    Tri c iprop(debt c 0 0 ∗ cred (tallyAt (barCell c) 0 2) ∗ atPos ER (barCell c) 0 ∅ 0 ∗ recs m K)
      (semWaitWord barS 2#32) iprop(debt c 0 0 ∗ atPos ER (barCell c) 1 ∅ 0 ∗ barPay false c ∗ barPay true c) := by
  intro α k Q
  simp only [semWaitWord, Prog.bind_op, Prog.bind_ret]
  iintro ⟨⟨%W, HO⟩, Hc, Hat, #Hrec⟩ Hk
  iapply (Rounds.wp_wait_rest_token 𝒱₀ ER (sched m) (c : Thread nD τ) none (κ := K (c, none))
      (wpE_semWait_eq 𝒱₀ (c : Thread nD τ) none Set.univ) (Set.mem_univ _) 0 (O := due c 0 0) (W := W) (R := 0) (m := 0) (T := ∅)
      (by rw [expect_bar]; decide)) $$ [Hc HO Hat]
  · isplitr; · iapply (recs_bar m K c); iexact Hrec
    isplitl [Hc]; · iexact Hc
    isplitl [HO]; · iexact HO
    isplitr
    · iapply (mayWait c (.reg barS) 0 0 0 (by decide) (by rw [lv_bar]; decide) (by rw [lv_bar]; decide))
      iapply (recs_lev m K); iexact Hrec
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- What a device has to send along an axis: the signal, and every chunk. -/
def sends (a : Bool) : sProp 𝕄 :=
  iprop(dutyTok ER (barCell (nbr a c)) 0 a ∗ reached ER (barCell (nbr a c)) 0 ∗ barPay a (nbr a c) ∗ toks a c 0 ∗ creds a c 0 ∗ poss a c 0)

theorem barPay_rights (a : Bool) : (barPay a c : sProp 𝕄) ⊢ rights a c 0 := .rfl

/-- What device `c` holds at the start. -/
def Begin : sProp 𝕄 :=
  iprop((∃ W, owes (c : Thread nD τ) (O₀ c) W) ∗ sends c false ∗ sends c true ∗ cred (tallyAt (barCell c) 0 2) ∗ atPos ER (barCell c) 0 ∅ 0
    ∗ YI c 0 ∗ YI c 1 ∗ XI c 0 ∗ XI c 1 ∗ zero c (sem2 cc0_scratch10 (par 0)) ∗ zero c (sem2 cc0_scratch10 (par 1))
    ∗ PI c 0 ∗ PI c 1 ∗ RI c 0 ∗ RI c 1 ∗ todoP m c 0 ∗ todoR m c 0 ∗ todoO c 0 ∗ todoX c 0
    ∗ ownsAny (c : Thread nD τ) outV ∗ owns (c : Thread nD τ) gM fullShare (gv m c))

theorem XF_lt (i : ℕ) (h : i < 2) : XF m c i = XI c i := by unfold XF; rw [if_pos h]
theorem YF_lt (i : ℕ) (h : i < 2) : (YF c i : sProp 𝕄) = YI c i := by unfold YF; rw [if_pos h]

theorem tri_prologue : Tri c iprop(Begin m c gM ∗ recs m K) (prologue c) iprop((Inv m c gM 0 ∗ recs m K) ∗ atPos ER (barCell c) 1 ∅ 0) := by
  intro α k Q
  unfold prologue Begin sends
  simp only [bind_assoc]
  iintro ⟨⟨HO, ⟨Hsy, Hry, Hby, Hty, Hcy, Hpy⟩, ⟨Hsx, Hrx, Hbx, Htx, Hcx, Hpx⟩, Hcb, Hpb, HY, HY', HX, HX', Hz, Hz', HP, HP', HR, HR', HtP, HtR, HtO, HtX, Hout, Hg⟩, #Hrec⟩ Hk
  iapply (tri_signal m K c false (O₁ c)).run $$ [HO Hsy Hry Hby]
  · isplitl [HO]; · iexact HO
    isplitl [Hsy]; · iexact Hsy
    isplitl [Hry]; · iexact Hry
    isplitl [Hby]; · iexact Hby
    iexact Hrec
  iintro HO
  iapply (tri_signal m K c true (due c 0 0)).run $$ [HO Hsx Hrx Hbx]
  · isplitl [HO]; · iexact HO
    isplitl [Hsx]; · iexact Hsx
    isplitl [Hrx]; · iexact Hrx
    isplitl [Hbx]; · iexact Hbx
    iexact Hrec
  iintro HO
  iapply (tri_barrier m K c).run $$ [HO Hcb Hpb]
  · isplitl [HO]; · iexact HO
    isplitl [Hcb]; · iexact Hcb
    isplitl [Hpb]; · iexact Hpb
    iexact Hrec
  iintro ⟨HO, Hpb, Hry, Hrx⟩
  ihave Hry := (barPay_rights (F := F) c false) $$ Hry
  ihave Hrx := (barPay_rights (F := F) c true) $$ Hrx
  rw [← bind_assoc]
  iapply (tri_start m c 0 (by decide)).run $$ [HP HR HtP HtR]
  · isplitl [HP]; · iexact HP
    isplitl [HR]; · iexact HR
    isplitl [HtP] <;> iassumption
  iintro ⟨HP, HR, HtP, HtR⟩
  rw [← bind_assoc]
  iapply (tri_start m c 1 (by decide)).run $$ [HP' HR' HtP HtR]
  · isplitl [HP']; · iexact HP'
    isplitl [HR']; · iexact HR'
    isplitl [HtP] <;> iassumption
  iintro ⟨HP', HR', HtP, HtR⟩
  iapply (tri_inP m K c 0 0 0 (by decide)).run $$ [HP HO]
  · isplitl [HP]; · iexact HP
    isplitr; · unfold doneP; rw [fam_nil (a := 0) (b := 0) _ le_rfl]; iempintro
    isplitl [HO]; · iexact HO
    iexact Hrec
  iintro ⟨HP, HdP, HO⟩
  rw [← bind_assoc]
  iapply (tri_castSend m K c 0 0 (by decide)).run $$ [HP HY Hty Hry HO]
  · isplitl [HP]; · iexact HP
    isplitl [HY]; · iexact HY
    isplitl [Hty]; · iexact Hty
    isplitl [Hry]; · iexact Hry
    isplitr; · unfold heldY; rw [fam_nil (b := 0 + 3) _ (by decide)]; iempintro
    isplitl [HO]; · iexact HO
    iexact Hrec
  iintro ⟨HP, HY, Hty, Hry, -, HO⟩
  iapply Hk
  isplitr [Hpb]
  · isplitl
    · unfold Inv
      rw [XF_lt m c 0 (by decide), XF_lt m c (0 + 1) (by decide)]
      isplitl [HO]; · iexact HO
      isplitl [Hty]; · iexact Hty
      isplitl [Hry]; · iapply (gap_one false c); iexact Hry
      isplitr; · unfold heldY; rw [fam_nil (b := 0 + 1 + 3) _ (by decide)]; iempintro
      isplitl [Hcy]; · iexact Hcy
      isplitl [Hpy]; · iexact Hpy
      isplitl [HY']; · rw [show min (0 + 1) 32 = 1 by decide, YF_lt c 1 (by decide)]; iexact HY'
      isplitl [HY]; · iexact HY
      isplitl [Htx]; · iexact Htx
      isplitl [Hrx]; · iexact Hrx
      isplitr; · unfold heldX; rw [fam_nil (b := 0 + 2) _ (by decide)]; iempintro
      isplitl [Hcx]; · iexact Hcx
      isplitl [Hpx]; · iexact Hpx
      isplitl [HX]; · iexact HX
      isplitl [HX']; · iexact HX'
      isplitl [Hz]; · unfold XS; rw [if_pos (by decide)]; iexact Hz
      isplitl [Hz']; · iexact Hz'
      isplitl [HP]; · iexact HP
      isplitl [HP']; · iexact HP'
      isplitl [HR]; · iexact HR
      isplitl [HR']; · iexact HR'
      isplitl [HtP]; · iexact HtP
      isplitl [HdP]; · iexact HdP
      isplitl [HtR]; · iexact HtR
      isplitr; · unfold doneR; rw [fam_nil (a := 0) (b := 0) _ le_rfl]; iempintro
      isplitl [HtO]; · iexact HtO
      isplitr; · unfold doneO; rw [fam_nil (a := 0) (b := 0 - 2) _ le_rfl]; iempintro
      isplitl [HtX]; · iexact HtX
      isplitr; · unfold doneX; rw [fam_nil (a := 0) (b := 0 - 2) _ le_rfl]; iempintro
      isplitl [Hout] <;> iassumption
    · iexact Hrec
  · iexact Hpb

/-! ## The last transfers -/

theorem tri_drain (i b b' : ℕ) :
    Tri c iprop(XF m c (i + 2) ∗ XS m c (i + 2) ∗ YF c (i + 2) ∗ doneO m c i ∗ doneX m c i ∗ debt c b b' ∗ recs m K) (drain c i)
      iprop(XI c i ∗ zero c (sem2 cc0_scratch10 (par i)) ∗ freed true c (i + 4) ∗ YI c i ∗ doneO m c (i + 1) ∗ doneX m c (i + 1) ∗ debt c b b') := by
  intro α k Q
  rw [doneO_put, doneX_put, XF_two]
  unfold drain XI
  simp only [bind_assoc]
  iintro ⟨⟨HF, HF'⟩, HS, HY, HDO, HDX, HO, #Hrec⟩ Hk
  iapply (tri_waitO m K c i b b' _).run $$ [HF' HO]
  · isplitl [HF']; · iexact HF'
    isplitl [HO]; · iexact HO
    iexact Hrec
  iintro ⟨⟨Hp, Hl⟩, Hz', HO⟩
  iapply (tri_inX m K c i b b').run $$ [HS HO]
  · isplitl [HS]; · iexact HS
    isplitl [HO]; · iexact HO
    iexact Hrec
  iintro ⟨Hz'', Hf, Hp', HO⟩
  iapply (tri_doneY m K c i b b').run $$ [HY HO]
  · isplitl [HY]; · iexact HY
    isplitl [HO]; · iexact HO
    iexact Hrec
  iintro ⟨HY, HO⟩
  iapply (tri_waitXS m K c i b b' _).run $$ [HF HO]
  · isplitl [HF]; · iexact HF
    isplitl [HO]; · iexact HO
    iexact Hrec
  iintro ⟨Hr, Hz, HO⟩
  iapply Hk
  isplitl [Hr Hl Hz Hz']
  · isplitl [Hr Hl]
    · iapply (joinX m c i); isplitl [Hl] <;> iassumption
    isplitl [Hz] <;> iassumption
  isplitl [Hz'']; · iexact Hz''
  isplitl [Hf]; · iexact Hf
  isplitl [HY]; · iapply (Entails.of_eq (YI_two (F := F) c i)); iexact HY
  isplitl [Hp HDO]; · isplitl [Hp] <;> iassumption
  isplitl [Hp' HDX]; · isplitl [Hp'] <;> iassumption
  iexact HO

/-- What device `c` is left with. -/
def End : sProp 𝕄 :=
  iprop((∃ W, owes (c : Thread nD τ) 0 W) ∗ heldY c 33 ∗ (freed true c 35 ∗ freed true c 34 ∗ heldX c 32) ∗ poss false c 32 ∗ poss true c 32
    ∗ YI c 0 ∗ YI c 1 ∗ XI c 0 ∗ XI c 1 ∗ zero c (sem2 cc0_scratch10 (par 0)) ∗ zero c (sem2 cc0_scratch10 (par 1))
    ∗ PI c 0 ∗ PI c 1 ∗ RI c 0 ∗ RI c 1 ∗ doneP m c 32 ∗ doneR m c 32 ∗ doneO m c 32 ∗ doneX m c 32
    ∗ ownsAny (c : Thread nD τ) outV ∗ owns (c : Thread nD τ) gM fullShare (gv m c))

theorem idle_ge : PH m c 32 = PI c 0 ∧ PF m c 33 = PI c 1 ∧ RF m c 32 = RI c 0 ∧ RF m c 33 = RI c 1 := by
  refine ⟨?_, ?_, ?_, ?_⟩ <;> first | unfold PH | unfold PF | unfold RF
  all_goals rw [if_neg (by decide)]
  all_goals first | (unfold PI; rfl) | (unfold RI; rfl)

theorem tri_epilogue : Tri c iprop(Inv m c gM 32 ∗ recs m K) (epilogue c) (End m c gM) := by
  intro α k Q
  obtain ⟨e1, e2, e3, e4⟩ := idle_ge (F := F) m c
  unfold epilogue Inv
  rw [e1, e2, e3, e4]
  simp only [bind_assoc]
  iintro ⟨⟨HO, Hty, Hry, Hhy, Hcy, Hpy, HY, HY', Htx, Hrx, Hhx, Hcx, Hpx, HX, HX', HS, Hzx, HP, HPF, HR, HR', HtP, HdP, HtR, HdR, HtO, HdO, HtX, HdX, Hout, Hg⟩, #Hrec⟩ Hk
  iapply (tri_takeX m K c 31 33 32 (by decide) (by decide) (by decide)).run $$ [Hcx Hpx HO HtX Hzx]
  · isplitl [Hcx]; · iexact Hcx
    isplitl [Hpx]; · iexact Hpx
    isplitl [HO]; · iexact HO
    isplitr; · iexact Hrec
    isplitl [HtX]; · iexact HtX
    isplitl [Hzx]; · iexact Hzx
    unfold gap; rw [fam_nil (a := 31 + 2) _ (by decide)]; iempintro
  iintro ⟨-, Hpx, HO, -, HS', -⟩
  iapply (tri_drain m K c 30 33 32).run $$ [HX HS HY HdO HdX HO]
  · isplitl [HX]; · iexact HX
    isplitl [HS]; · iexact HS
    isplitl [HY]; · iexact HY
    isplitl [HdO]; · iexact HdO
    isplitl [HdX]; · iexact HdX
    isplitl [HO]; · iexact HO
    iexact Hrec
  iintro ⟨HX, Hz, Hf, HY, HdO, HdX, HO⟩
  iapply (tri_drain m K c 31 33 32).run $$ [HX' HS' HY' HdO HdX HO]
  · isplitl [HX']; · iexact HX'
    isplitl [HS']; · iexact HS'
    isplitl [HY']; · iexact HY'
    isplitl [HdO]; · iexact HdO
    isplitl [HdX]; · iexact HdX
    isplitl [HO]; · iexact HO
    iexact Hrec
  iintro ⟨HX', Hz', Hf', HY', HdO, HdX, HO⟩
  iapply Hk
  unfold End
  isplitl [HO]
  · unfold debt due
    rw [ow_end false c 33 (by decide), ow_end true c 32 (by decide), add_zero]; iexact HO
  isplitl [Hhy]; · iexact Hhy
  isplitl [Hf Hf' Hhx]
  · isplitl [Hf']; · iexact Hf'
    isplitl [Hf] <;> iassumption
  isplitl [Hpy]; · iexact Hpy
  isplitl [Hpx]; · iexact Hpx
  isplitl [HY]; · iexact HY
  isplitl [HY']; · iexact HY'
  isplitl [HX]; · iexact HX
  isplitl [HX']; · iexact HX'
  isplitl [Hz]; · iexact Hz
  isplitl [Hz']; · iexact Hz'
  isplitl [HP]; · iexact HP
  isplitl [HPF]; · iexact HPF
  isplitl [HR]; · iexact HR
  isplitl [HR']; · iexact HR'
  isplitl [HdP]; · iexact HdP
  isplitl [HdR]; · iexact HdR
  isplitl [HdO]; · iexact HdO
  isplitl [HdX]; · iexact HdX
  isplitl [Hout] <;> iassumption

/-! ## The kernel -/

theorem Tri.finish {p : Hand.K F PUnit} {P R : sProp 𝕄} (h : Tri c P p R) (Q : PUnit → sProp 𝕄) : P ⊢ iprop((R -∗ |={Set.univ}=> Q ⟨⟩) -∗ wpK c p Q) := by
  have h' := h PUnit (fun _ => pure ⟨⟩) Q
  rw [show (p >>= fun _ => (pure ⟨⟩ : Hand.K F PUnit)) = p from bind_pure p] at h'
  iintro HP Hk
  iapply h' $$ HP
  iintro HR
  unfold wpK
  rw [Prog.pure_eq_ret, wp_ret]
  iapply Hk
  iexact HR

/-- The kernel once it knows its device. -/
def rest (d : Dev nD) : Hand.K F PUnit := prologue d >>= fun _ => loop gM d 32 0 >>= fun _ => epilogue d

theorem whole_eq : whole (F := F) gM = Prog.op .deviceId (rest gM) := rfl

theorem tri_rest : Tri c iprop(Begin m c gM ∗ recs m K) (rest gM c) iprop(End m c gM ∗ atPos ER (barCell c) 1 ∅ 0) := by
  have hl := (tri_loop m K c gM 32 0 (Nat.zero_add 32)).seq (tri_epilogue m K c gM)
  exact (tri_prologue m K c gM).seq (hl.frame (atPos ER (barCell c) 1 ∅ 0))

theorem wp_dev (k : Dev nD → Hand.K F PUnit) (Q : PUnit → sProp 𝕄) : wpK c (.op .deviceId k) Q = wpK c (k c) Q :=
  wp_deviceId (defs := defs₀ (F := F)) 𝒱₀ (c : Thread nD τ) none Set.univ

theorem wp_whole (Q : PUnit → sProp 𝕄) :
    iprop(Begin m c gM ∗ recs m K) ⊢ iprop((End m c gM ∗ atPos ER (barCell c) 1 ∅ 0 -∗ |={Set.univ}=> Q ⟨⟩) -∗ wpK c (whole gM) Q) := by
  rw [whole_eq, wp_dev]
  exact (tri_rest m K c gM).finish c Q

end Cert.KernelIdeal.Hand
-- ==== Proof.Cut.lean ====
module

public import proofs.«01_k».proof.Proof.Rules
public import proofs.«01_k».proof.Proof.Family

/-!
A buffer cut into disjoint pieces, each owned through a memref of its own, and the pieces joined again.
-/

@[expose] public section

noncomputable section

namespace Cert.Hand

open Idealize.ShloMosaic
open Idealize.SL
open Idealize.SL.BI (sProp bigSep)
open scoped Idealize.SL.BI
open Idealize.SL.BI.BIBase Idealize.SL.BI.Laws Idealize.SL.ProofMode
open Idealize.SL.RA

variable {nD : Nat} {τ : Topo} {sig : RefSig} {Ix : Type} [DecidableEq Ix]
variable {Val : EltTy → Type} {Name : Type} [DecidableEq Name] [Infinite Name]
variable {U : Type} [URA U] {Lvl : Type} [Preorder Lvl]
local notation "𝕄" => MT nD τ sig Ix Val Name U Lvl

variable (c : Thread nD τ) {sp : Space} {s : Shape} {e : EltTy}

/-- A memref owned at what it reads of some contents is its elements at those contents. -/
theorem owns_read_eq (m : Memref sig c.2.kind sp s e) (q : PosShare TreeShare) (g : m.view.ty.Contents Val) :
    (owns c m q (m.view.read Val g) : sProp 𝕄) = (m.view.loc c ↦[m.view.set]{q} g) := by
  have h : (owns c m q (m.view.read Val g) : sProp 𝕄) ⊢ (m.view.loc c ↦[m.view.set]{q} g) := by
    unfold owns
    iintro ⟨%f, %hf, H⟩
    have hfg : ∀ i ∈ m.view.set, f i = g i := fun i hi => by
      obtain ⟨x, -, rfl⟩ := Finset.mem_map.mp hi
      have hx := congrFun hf x
      rw [View.read_apply, View.read_apply] at hx
      exact (cast_inj _).mp hx
    ihave H' := (Entails.of_eq (pointsTo_congr hfg)) $$ H
    iexact H'
  exact BI.Entails.antisymm h (owns_intro c m q g)

/-- A memref owned at anything is its elements at some contents. -/
theorem ownsAny_eq (m : Memref sig c.2.kind sp s e) :
    (ownsAny c m : sProp 𝕄) = iprop(∃ g : Buf Val (m.view.loc c), m.view.loc c ↦[m.view.set]{fullShare} g) := by
  have h₁ : (ownsAny c m : sProp 𝕄) ⊢ iprop(∃ g : Buf Val (m.view.loc c), m.view.loc c ↦[m.view.set]{fullShare} g) := by
    unfold ownsAny owns
    iintro ⟨%Y, %f, -, H⟩
    iexists f
    iexact H
  have h₂ : iprop(∃ g : Buf Val (m.view.loc c), m.view.loc c ↦[m.view.set]{fullShare} g) ⊢ (ownsAny c m : sProp 𝕄) := by
    iintro ⟨%f, H⟩
    ihave H := (owns_intro c m fullShare f) $$ H
    iapply (ownsAny_intro c m (m.view.read Val f)); iexact H
  exact BI.Entails.antisymm h₁ h₂

section Sets

variable {ℓ : Loc nD τ sig} {T : Type} [DecidableEq T] (S : Finset T) (I : T → Finset (Idx ℓ))
  (hd : ∀ t ∈ S, ∀ t' ∈ S, t ≠ t' → Disjoint (I t) (I t'))
include hd

/-- Elements at some contents, cut into a disjoint family. -/
theorem cut_any : iprop(∃ g : Buf Val ℓ, ℓ ↦[S.biUnion I]{fullShare} g) ⊢ (bigSep S fun t => iprop(∃ g : Buf Val ℓ, ℓ ↦[I t]{fullShare} g) : sProp 𝕄) := by
  iintro ⟨%g, H⟩
  ihave H := (Entails.of_eq (pointsTo_biUnion S I hd)) $$ H
  have hm : (bigSep S fun t => ℓ ↦[I t]{fullShare} g) ⊢ (bigSep S fun t => iprop(∃ g : Buf Val ℓ, ℓ ↦[I t]{fullShare} g) : sProp 𝕄) :=
    have h : ∀ t, (ℓ ↦[I t]{fullShare} g : sProp 𝕄) ⊢ iprop(∃ g : Buf Val ℓ, ℓ ↦[I t]{fullShare} g) := fun t => by iintro H; iexists g; iexact H
    BI.bigSep_mono fun t _ => h t
  iapply hm; iexact H

/-- A disjoint family, each at contents with a property, joined: the whole's contents agree with each member's on its own elements. -/
theorem join_any [∀ e, Nonempty (Val e)] (φ : T → Buf Val ℓ → Prop) :
    (bigSep S fun t => iprop(∃ g : Buf Val ℓ, ⌜φ t g⌝ ∗ ℓ ↦[I t]{fullShare} g))
      ⊢ (iprop(∃ g : Buf Val ℓ, ⌜∀ t ∈ S, ∃ g', φ t g' ∧ ∀ i ∈ I t, g i = g' i⌝ ∗ ℓ ↦[S.biUnion I]{fullShare} g) : sProp 𝕄) := by
  induction S using Finset.induction_on with
  | empty =>
    iintro -
    iexists fun _ => Classical.arbitrary _
    isplitr
    · ipureintro; exact fun t ht => absurd ht (Finset.notMem_empty t)
    · rw [Finset.biUnion_empty, pointsTo_empty]; iempintro
  | insert t S ht ih =>
    have hdis : Disjoint (I t) (S.biUnion I) := (Finset.disjoint_biUnion_right _ _ _).mpr fun t' ht' =>
      hd t (Finset.mem_insert_self _ _) t' (Finset.mem_insert_of_mem ht') (fun h => ht (h ▸ ht'))
    have hi := ih fun t₁ h₁ t₂ h₂ => hd t₁ (Finset.mem_insert_of_mem h₁) t₂ (Finset.mem_insert_of_mem h₂)
    rw [BI.bigSep_insert ht, Finset.biUnion_insert]
    refine (show iprop((∃ g : Buf Val ℓ, ⌜φ t g⌝ ∗ ℓ ↦[I t]{fullShare} g) ∗ bigSep S fun t => iprop(∃ g : Buf Val ℓ, ⌜φ t g⌝ ∗ ℓ ↦[I t]{fullShare} g)) ⊢ _ from ?_)
    iintro ⟨⟨%g₁, %h₁, H₁⟩, HS⟩
    ihave HS := hi $$ HS
    icases HS with ⟨%g₂, %h₂, H₂⟩
    iexists (S.biUnion I).piecewise g₂ g₁
    isplitr
    · ipureintro
      intro u hu
      rcases Finset.mem_insert.mp hu with rfl | hu
      · exact ⟨g₁, h₁, fun i hi => Finset.piecewise_eq_of_notMem _ _ _ (Finset.disjoint_left.mp hdis hi)⟩
      · obtain ⟨g', hg', ha⟩ := h₂ u hu
        exact ⟨g', hg', fun i hi => (Finset.piecewise_eq_of_mem _ _ _ (Finset.mem_biUnion.mpr ⟨u, hu, hi⟩)).trans (ha i hi)⟩
    · iapply (pointsTo_join hdis)
      isplitl [H₁] <;> iassumption

/-- The same with no property. -/
theorem join_any' [∀ e, Nonempty (Val e)] :
    (bigSep S fun t => iprop(∃ g : Buf Val ℓ, ℓ ↦[I t]{fullShare} g)) ⊢ (iprop(∃ g : Buf Val ℓ, ℓ ↦[S.biUnion I]{fullShare} g) : sProp 𝕄) := by
  have h₁ : (bigSep S fun t => iprop(∃ g : Buf Val ℓ, ℓ ↦[I t]{fullShare} g)) ⊢ (bigSep S fun t => iprop(∃ g : Buf Val ℓ, ⌜True⌝ ∗ ℓ ↦[I t]{fullShare} g) : sProp 𝕄) :=
    have h : ∀ t, iprop(∃ g : Buf Val ℓ, ℓ ↦[I t]{fullShare} g) ⊢ (iprop(∃ g : Buf Val ℓ, ⌜True⌝ ∗ ℓ ↦[I t]{fullShare} g) : sProp 𝕄) := fun t => by
      iintro ⟨%g, H⟩; iexists g
      isplitr; · ipureintro; trivial
      iexact H
    BI.bigSep_mono fun t _ => h t
  refine (h₁.trans (join_any S I hd fun _ _ => True)).trans ?_
  iintro ⟨%g, -, H⟩
  iexists g; iexact H

end Sets

section Slices

variable (m : Memref sig c.2.kind sp s e) {T : Type} [Fintype T] [DecidableEq T] (r : T → Rect s)
  (hd : ∀ t t', t ≠ t' → Disjoint (r t).set (r t').set) (hcov : ∀ x, ∃ t, x ∈ (r t).set)
include hd hcov

/-- A memref owned at anything is its slices along a disjoint covering family, each owned at anything. -/
theorem ownsAny_cut [∀ e, Nonempty (Val e)] (M : T → sProp 𝕄)
    (hM : ∀ t, M t = iprop(∃ g : Buf Val (m.view.loc c), m.view.loc c ↦[(m.view.slice (r t)).set]{fullShare} g)) :
    (ownsAny c m : sProp 𝕄) = bigSep Finset.univ M := by
  have hset : m.view.set = (Finset.univ : Finset T).biUnion fun t => (m.view.slice (r t)).set := by
    ext i
    simp only [Finset.mem_biUnion, Finset.mem_univ, true_and, View.set_slice]
    constructor
    · intro hi
      obtain ⟨x, -, rfl⟩ := Finset.mem_map.mp hi
      obtain ⟨t, ht⟩ := hcov x
      exact ⟨t, Finset.mem_map.mpr ⟨x, ht, rfl⟩⟩
    · rintro ⟨t, hi⟩
      obtain ⟨x, -, rfl⟩ := Finset.mem_map.mp hi
      exact Finset.mem_map.mpr ⟨x, Finset.mem_univ _, rfl⟩
  have hdis : ∀ t ∈ (Finset.univ : Finset T), ∀ t' ∈ (Finset.univ : Finset T), t ≠ t' → Disjoint (m.view.slice (r t)).set (m.view.slice (r t')).set := fun t _ t' _ htt => by
    rw [View.set_slice, View.set_slice]; exact (Finset.disjoint_map _).mpr (hd t t' htt)
  rw [ownsAny_eq, hset, BI.bigSep_congr fun t _ => hM t]
  exact BI.Entails.antisymm (cut_any _ _ hdis) (join_any' _ _ hdis)

end Slices

/-- Four members of a run. -/
theorem fam_four {M : Type} [URA M] (Φ : ℕ → sProp M) (a : ℕ) : fam Φ a (a + 4) = iprop(Φ a ∗ Φ (a + 1) ∗ Φ (a + 2) ∗ Φ (a + 3)) := by
  rw [fam_take _ (by omega), fam_take _ (by omega), fam_take _ (by omega), fam_take _ (by omega), fam_nil _ (by omega)]
  have h : iprop(Φ (a + 1 + 1 + 1) ∗ emp) = Φ (a + 3) := BI.Entails.antisymm (show Idealize.SL.BI.BIBase.Entails iprop(Φ (a + 1 + 1 + 1) ∗ emp) (Φ (a + 3)) from sep_elim_left)
    (show Idealize.SL.BI.BIBase.Entails (Φ (a + 3)) iprop(Φ (a + 1 + 1 + 1) ∗ emp) from Idealize.SL.BI.BIClass.emp_sep.2.trans sep_comm.1)
  rw [h]

end Cert.Hand
-- ==== Proof.CutIdeal.lean ====
module

public import proofs.«01_k».proof.Proof.EndsIdeal
public import proofs.«01_k».proof.Proof.Cut

/-!
The device's buffers, cut into the slots and pieces the kernel moves, and put together again at the end.
-/

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : Dev nD × Cell → ℕ) (a : Bool) (c : Dev nD)

/-! ## Slots -/

/-- A buffer at anything, as a memref. -/
theorem whole_any (b : Ref sig (c : Thread nD τ).2.kind) :
    (iprop(∃ f : Buf (Elt F) ((c : Thread nD τ).loc b), (c : Thread nD τ).loc b ↦{fullShare} f) : sProp 𝕄) = ownsAny (c : Thread nD τ) (Memref.whole b) := by
  rw [ownsAny_eq]
  have h : (Memref.whole b).view.set = Finset.univ := View.set_whole _
  rw [h]

theorem rows2_disjoint (s t : Fin 2) (h : s ≠ t) : Disjoint (R2 s).set (R2 t).set := by
  rcases Nat.lt_or_gt_of_ne (fun h' => h (Fin.ext h')) with h' | h'
  · exact Rect.unit_disjoint 0 (by simp; omega)
  · exact (Rect.unit_disjoint 0 (by simp; omega)).symm
theorem rows4_disjoint (s t : Fin 4) (h : s ≠ t) : Disjoint (R4 s).set (R4 t).set := by
  rcases Nat.lt_or_gt_of_ne (fun h' => h (Fin.ext h')) with h' | h'
  · exact Rect.unit_disjoint 0 (by simp; omega)
  · exact (Rect.unit_disjoint 0 (by simp; omega)).symm
theorem rows2_cover (x : S2x128x2048.Idx) : ∃ s, x ∈ (R2 s).set := by
  refine ⟨x 0, Rect.mem_set_unit.mpr fun ax => ?_⟩
  have := (x ax).isLt
  fin_cases ax <;> simp at this ⊢ <;> omega
theorem rows4_cover (x : S4x128x2048.Idx) : ∃ s, x ∈ (R4 s).set := by
  refine ⟨x 0, Rect.mem_set_unit.mpr fun ax => ?_⟩
  have := (x ax).isLt
  fin_cases ax <;> simp at this ⊢ <;> omega

theorem slots2 {e : EltTy} (b : Memref sig .tc .vmem S2x128x2048 e) :
    (ownsAny (c : Thread nD τ) b : sProp 𝕄) = iprop(ownsAny (c : Thread nD τ) (slot2 b 0) ∗ ownsAny (c : Thread nD τ) (slot2 b 1)) := by
  rw [ownsAny_cut (c : Thread nD τ) b R2 rows2_disjoint rows2_cover (fun s => ownsAny (c : Thread nD τ) (slot2 b s)) fun s => ?_]
  · exact bigSep_univ_two _
  · rw [ownsAny_eq, Memref.view_squeeze, View.set_reshape]
theorem slots4 {e : EltTy} (b : Memref sig .tc .vmem S4x128x2048 e) :
    (ownsAny (c : Thread nD τ) b : sProp 𝕄) = iprop(ownsAny (c : Thread nD τ) (slot4 b 0) ∗ ownsAny (c : Thread nD τ) (slot4 b 1) ∗ ownsAny (c : Thread nD τ) (slot4 b 2) ∗ ownsAny (c : Thread nD τ) (slot4 b 3)) := by
  rw [ownsAny_cut (c : Thread nD τ) b R4 rows4_disjoint rows4_cover (fun s => ownsAny (c : Thread nD τ) (slot4 b s)) fun s => ?_]
  · exact bigSep_univ_eq_bigSepL [0, 1, 2, 3] (by decide) (by decide) _
  · rw [ownsAny_eq, Memref.view_squeeze, View.set_reshape]

/-! ## The arrays -/

theorem ch_val {k : ℕ} (h : k < 32) : (ch k).val = k := Nat.mod_eq_of_lt h

theorem mem_srcP {k : ℕ} (h : k < 32) (x : S1x8192x2048.Idx) : x ∈ (srcP c k).view.set ↔ 4096 * (c.val / 2) + 128 * k ≤ (x 1).val ∧ (x 1).val < 4096 * (c.val / 2) + 128 * k + 128 := by
  refine (Eq.to_iff (congrArg (x ∈ ·) ((View.set_reshape _ _ ).trans (View.set_slice_whole _ _)))).trans (Rect.mem_set_unit.trans ?_)
  rw [k0_off1_eq, ch_val h]
  refine ⟨fun hx => hx 1, fun hx ax => ?_⟩
  have := (x ax).isLt
  fin_cases ax
  · simp at this ⊢; omega
  · exact hx
  · simp at this ⊢; omega
theorem mem_rows2 {k : ℕ} (h : k < 32) (x : S8192x2048.Idx) : x ∈ (Rect.unit (s := S8192x2048) (k0_off2 c (BitVec.ofNat 32 (128 * (ch k).val))) S128x2048.size (k0_off2_inb c (ch k))).set
    ↔ 4096 * (c.val / 2) + 128 * k ≤ (x 0).val ∧ (x 0).val < 4096 * (c.val / 2) + 128 * k + 128 := by
  refine Rect.mem_set_unit.trans ?_
  rw [k0_off2_eq, ch_val h]
  refine ⟨fun hx => hx 0, fun hx ax => ?_⟩
  have := (x ax).isLt
  fin_cases ax
  · exact hx
  · simp at this ⊢; omega
theorem mem_rows3 {k : ℕ} (h : k < 32) (x : S8192x2048.Idx) : x ∈ (Rect.unit (s := S8192x2048) (k0_off3 c (BitVec.ofNat 32 (128 * (ch k).val))) S128x2048.size (k0_off3_inb c (ch k))).set
    ↔ 4096 * (1 - c.val / 2) + 128 * k ≤ (x 0).val ∧ (x 0).val < 4096 * (1 - c.val / 2) + 128 * k + 128 := by
  refine Rect.mem_set_unit.trans ?_
  rw [k0_off3_eq, ch_val h]
  have hc : c.val < 4 := c.isLt
  refine ⟨fun hx => ?_, fun hx ax => ?_⟩
  · have := hx 0
    simp at this ⊢; omega
  have := (x ax).isLt
  fin_cases ax
  · simp at hx ⊢; omega
  · simp at this ⊢; omega
theorem mem_srcR {k : ℕ} (h : k < 32) (x : S8192x2048.Idx) : x ∈ (srcR c k).view.set ↔ 4096 * (c.val / 2) + 128 * k ≤ (x 0).val ∧ (x 0).val < 4096 * (c.val / 2) + 128 * k + 128 := by
  exact (Eq.to_iff (congrArg (x ∈ ·) (View.set_slice_whole _ _))).trans (mem_rows2 c h x)
theorem mem_outOwn {k : ℕ} (h : k < 32) (x : S8192x2048.Idx) : x ∈ (outOwn c k).view.set ↔ 4096 * (c.val / 2) + 128 * k ≤ (x 0).val ∧ (x 0).val < 4096 * (c.val / 2) + 128 * k + 128 := by
  exact (Eq.to_iff (congrArg (x ∈ ·) (View.set_slice_whole _ _))).trans (mem_rows2 c h x)
theorem mem_outOth {k : ℕ} (h : k < 32) (x : S8192x2048.Idx) : x ∈ (outOth c k).view.set ↔ 4096 * (1 - c.val / 2) + 128 * k ≤ (x 0).val ∧ (x 0).val < 4096 * (1 - c.val / 2) + 128 * k + 128 := by
  exact (Eq.to_iff (congrArg (x ∈ ·) (View.set_slice_whole _ _))).trans (mem_rows3 c h x)

/-- Runs of 128 rows, one after another, do not meet. -/
theorem rows_disjoint {X : Type} [DecidableEq X] (I : ℕ → Finset X) (f : X → ℕ) (lo : ℕ) (h : ∀ k < 32, ∀ x, x ∈ I k ↔ lo + 128 * k ≤ f x ∧ f x < lo + 128 * k + 128) :
    ∀ t ∈ Finset.Ico 0 32, ∀ t' ∈ Finset.Ico 0 32, t ≠ t' → Disjoint (I t) (I t') := by
  intro t ht t' ht' hne
  rw [Finset.mem_Ico] at ht ht'
  refine Finset.disjoint_left.mpr fun x hx hx' => ?_
  have := (h t ht.2 x).mp hx
  have := (h t' ht'.2 x).mp hx'
  omega

/-- Thirty-two runs of 128 rows are 4096 rows. -/
theorem rows_mem {X : Type} [DecidableEq X] (I : ℕ → Finset X) (f : X → ℕ) (lo : ℕ) (h : ∀ k < 32, ∀ x, x ∈ I k ↔ lo + 128 * k ≤ f x ∧ f x < lo + 128 * k + 128) (x : X) :
    x ∈ (Finset.Ico 0 32).biUnion I ↔ lo ≤ f x ∧ f x < lo + 4096 := by
  simp only [Finset.mem_biUnion, Finset.mem_Ico]
  constructor
  · rintro ⟨k, hk, hx⟩
    have := (h k hk.2 x).mp hx
    omega
  · intro hx
    refine ⟨(f x - lo) / 128, by omega, (h _ (by omega) x).mpr (by omega)⟩

abbrev setP (k : ℕ) : Finset (Idx ((c : Thread nD τ).loc main_arg0)) := (srcP c k).view.set
abbrev setR (k : ℕ) : Finset (Idx ((c : Thread nD τ).loc main_arg1)) := (srcR c k).view.set
abbrev setO (k : ℕ) : Finset (Idx ((c : Thread nD τ).loc main_v1)) := (outOwn c k).view.set
abbrev setX (k : ℕ) : Finset (Idx ((c : Thread nD τ).loc main_v1)) := (outOth c k).view.set

theorem setP_disjoint : ∀ t ∈ Finset.Ico 0 32, ∀ t' ∈ Finset.Ico 0 32, t ≠ t' → Disjoint (setP c t) (setP c t') :=
  rows_disjoint (setP c) (fun x => (x 1).val) _ fun k hk x => mem_srcP c hk x
theorem setR_disjoint : ∀ t ∈ Finset.Ico 0 32, ∀ t' ∈ Finset.Ico 0 32, t ≠ t' → Disjoint (setR c t) (setR c t') :=
  rows_disjoint (setR c) (fun x => (x 0).val) _ fun k hk x => mem_srcR c hk x
theorem setO_disjoint : ∀ t ∈ Finset.Ico 0 32, ∀ t' ∈ Finset.Ico 0 32, t ≠ t' → Disjoint (setO c t) (setO c t') :=
  rows_disjoint (setO c) (fun x => (x 0).val) _ fun k hk x => mem_outOwn c hk x
theorem setX_disjoint : ∀ t ∈ Finset.Ico 0 32, ∀ t' ∈ Finset.Ico 0 32, t ≠ t' → Disjoint (setX c t) (setX c t') :=
  rows_disjoint (setX c) (fun x => (x 0).val) _ fun k hk x => mem_outOth c hk x

/-- The rows of the partial and of the residual the device does not touch. -/
def keepP : sProp 𝕄 := (c : Thread nD τ).loc main_arg0 ↦[Finset.univ \ (Finset.Ico 0 32).biUnion (setP c)]{fullShare} m ((c : Thread nD τ).loc main_arg0)
def keepR : sProp 𝕄 := (c : Thread nD τ).loc main_arg1 ↦[Finset.univ \ (Finset.Ico 0 32).biUnion (setR c)]{fullShare} m ((c : Thread nD τ).loc main_arg1)

theorem arg0_cut : ((c : Thread nD τ).loc main_arg0 ↦{fullShare} m ((c : Thread nD τ).loc main_arg0) : sProp 𝕄) = iprop(todoP m c 0 ∗ keepP m c) := by
  have h : todoP m c 0 = ((c : Thread nD τ).loc main_arg0 ↦[(Finset.Ico 0 32).biUnion (setP c)]{fullShare} m ((c : Thread nD τ).loc main_arg0) : sProp 𝕄) := by
    rw [pointsTo_biUnion _ _ (setP_disjoint c)]; unfold todoP fam
    exact bigSep_congr fun k _ => owns_read_eq (c : Thread nD τ) (srcP c k) fullShare (m ((c : Thread nD τ).loc main_arg0))
  rw [h]
  exact BI.Entails.antisymm (pointsTo_split_subset (Finset.subset_univ _)).1 (pointsTo_split_subset (Finset.subset_univ _)).2
theorem arg1_cut : ((c : Thread nD τ).loc main_arg1 ↦{fullShare} m ((c : Thread nD τ).loc main_arg1) : sProp 𝕄) = iprop(todoR m c 0 ∗ keepR m c) := by
  have h : todoR m c 0 = ((c : Thread nD τ).loc main_arg1 ↦[(Finset.Ico 0 32).biUnion (setR c)]{fullShare} m ((c : Thread nD τ).loc main_arg1) : sProp 𝕄) := by
    rw [pointsTo_biUnion _ _ (setR_disjoint c)]; unfold todoR fam
    exact bigSep_congr fun k _ => owns_read_eq (c : Thread nD τ) (srcR c k) fullShare (m ((c : Thread nD τ).loc main_arg1))
  rw [h]
  exact BI.Entails.antisymm (pointsTo_split_subset (Finset.subset_univ _)).1 (pointsTo_split_subset (Finset.subset_univ _)).2

theorem halves_cover : (Finset.Ico 0 32).biUnion (setO c) ∪ (Finset.Ico 0 32).biUnion (setX c) = Finset.univ := by
  ext x
  simp only [Finset.mem_union, Finset.mem_univ, iff_true]
  rw [rows_mem (setO c) (fun x => (x 0).val) _ fun k hk x => mem_outOwn c hk x, rows_mem (setX c) (fun x => (x 0).val) _ fun k hk x => mem_outOth c hk x]
  have hc : c.val < 4 := c.isLt
  have hx : (x 0).val < 8192 := (x 0).isLt
  omega
theorem halves_disjoint : Disjoint ((Finset.Ico 0 32).biUnion (setO c)) ((Finset.Ico 0 32).biUnion (setX c)) := by
  refine Finset.disjoint_left.mpr fun x h₁ h₂ => ?_
  rw [rows_mem (setO c) (fun x => (x 0).val) _ fun k hk x => mem_outOwn c hk x] at h₁
  rw [rows_mem (setX c) (fun x => (x 0).val) _ fun k hk x => mem_outOth c hk x] at h₂
  have hc : c.val < 4 := c.isLt
  omega

/-- The result array at anything, in pieces. -/
theorem out_cut (f : Buf (Elt F) ((c : Thread nD τ).loc main_v1)) : ((c : Thread nD τ).loc main_v1 ↦{fullShare} f : sProp 𝕄) ⊢ iprop(todoO c 0 ∗ todoX c 0) := by
  have hO : (bigSep (Finset.Ico 0 32) fun k => iprop(∃ g : Buf (Elt F) ((c : Thread nD τ).loc main_v1), (c : Thread nD τ).loc main_v1 ↦[setO c k]{fullShare} g)) = (todoO c 0 : sProp 𝕄) :=
    bigSep_congr fun k _ => (ownsAny_eq (c : Thread nD τ) (outOwn c k)).symm
  have hX : (bigSep (Finset.Ico 0 32) fun k => iprop(∃ g : Buf (Elt F) ((c : Thread nD τ).loc main_v1), (c : Thread nD τ).loc main_v1 ↦[setX c k]{fullShare} g)) = (todoX c 0 : sProp 𝕄) :=
    bigSep_congr fun k _ => (ownsAny_eq (c : Thread nD τ) (outOth c k)).symm
  rw [← halves_cover c]
  iintro H
  ihave H := (pointsTo_union (halves_disjoint c)).1 $$ H
  icases H with ⟨HO, HX⟩
  rw [← hO, ← hX]
  isplitl [HO]
  · iapply (cut_any _ _ (setO_disjoint c)); iexists f; iexact HO
  · iapply (cut_any _ _ (setX_disjoint c)); iexists f; iexact HX

/-- What the result array holds in the end. -/
def Holds (g : Buf (Elt F) ((c : Thread nD τ).loc main_v1)) : Prop :=
  ∀ k < 32, (outOwn c k).view.read (Elt F) g = Bv m c k ∧ (outOth c k).view.read (Elt F) g = Bv m (xnbr c) k

/-- The pieces of the result, back in one array. -/
theorem out_join : iprop(doneO m c 32 ∗ doneX m c 32) ⊢ (iprop(∃ g : Buf (Elt F) ((c : Thread nD τ).loc main_v1), ⌜Holds m c g⌝ ∗ (c : Thread nD τ).loc main_v1 ↦{fullShare} g) : sProp 𝕄) := by
  have hO := join_any (nD := nD) (τ := τ) (Ix := ℕ) (Name := ℕ) (U := UU) (Lvl := ℕ) (Finset.Ico 0 32) (setO c) (setO_disjoint c) fun k (g : Buf (Elt F) ((c : Thread nD τ).loc main_v1)) => (outOwn c k).view.read (Elt F) g = Bv m c k
  have hX := join_any (nD := nD) (τ := τ) (Ix := ℕ) (Name := ℕ) (U := UU) (Lvl := ℕ) (Finset.Ico 0 32) (setX c) (setX_disjoint c) fun k (g : Buf (Elt F) ((c : Thread nD τ).loc main_v1)) => (outOth c k).view.read (Elt F) g = Bv m (xnbr c) k
  iintro ⟨HO, HX⟩
  ihave HO := (show doneO m c 32 ⊢ _ from hO) $$ HO
  ihave HX := (show doneX m c 32 ⊢ _ from hX) $$ HX
  icases HO with ⟨%g₁, %h₁, HO⟩
  icases HX with ⟨%g₂, %h₂, HX⟩
  iexists ((Finset.Ico 0 32).biUnion (setX c)).piecewise g₂ g₁
  isplitr
  · ipureintro
    intro k hk
    have hm : k ∈ Finset.Ico 0 32 := Finset.mem_Ico.mpr ⟨Nat.zero_le _, hk⟩
    obtain ⟨f₁, e₁, a₁⟩ := h₁ k hm
    obtain ⟨f₂, e₂, a₂⟩ := h₂ k hm
    refine ⟨(View.read_congr fun i hi => ?_).trans e₁, (View.read_congr fun i hi => ?_).trans e₂⟩
    · exact (Finset.piecewise_eq_of_notMem _ _ _ (Finset.disjoint_left.mp (halves_disjoint c) (Finset.mem_biUnion.mpr ⟨k, hm, hi⟩))).trans (a₁ i hi)
    · exact (Finset.piecewise_eq_of_mem _ _ _ (Finset.mem_biUnion.mpr ⟨k, hm, hi⟩)).trans (a₂ i hi)
  · ihave H := (pointsTo_join (halves_disjoint c)) $$ [HO HX]
    · isplitl [HO] <;> iassumption
    rw [halves_cover c]
    iexact H

end Cert.KernelIdeal.Hand
-- ==== Proof.GhostIdeal.lean ====
module

public import proofs.«01_k».proof.Proof.CutIdeal
public import Idealize.ShloMosaic.Lib.Pipeline.Launch
public import Idealize.ShloMosaic.Lib.Pipeline.Kit

/-!
What the launch deals each device: the cells' invariants, its positions on its own cells, the tokens of the duties it pays,
the credits for what it will be sent, and its own semaphores.
-/

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : Dev nD × Cell → ℕ) (a : Bool) (c : Dev nD)

/-! ## The cells and the tokens -/

theorem kcell_injective : Function.Injective (kcell : Dev nD × Cell → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl
def ringCells : Finset (GSem nD τ sig) := Finset.univ.map ⟨kcell, kcell_injective⟩

/-- A device's tokens: one per signal on its barrier cell, one per chunk it is sent. -/
abbrev Tok : Type := Bool ⊕ (Bool × Fin 32)
abbrev tokOf (x : Dev nD × Tok) : GSem nD τ sig × ℕ × Bool := match x.2 with
  | .inl a => (barCell x.1, 0, a)
  | .inr (a, k) => (rcell a x.1 k.val, k.val / 4, false)
theorem tokOf_injective : Function.Injective tokOf := by
  rintro ⟨c, j⟩ ⟨c', j'⟩ h
  have hcell (x : Dev nD × Tok) : (tokOf x).1.1.1 = x.1 := by rcases x with ⟨e, a | ⟨a, k⟩⟩ <;> rfl
  have h1 : c = c' := by
    have := congrArg (fun x : GSem nD τ sig × ℕ × Bool => x.1.1.1) h
    exact (hcell (c, j)).symm.trans (this.trans (hcell (c', j')))
  subst h1
  rcases j with a | ⟨a, k⟩ <;> rcases j' with a' | ⟨a', k'⟩
  · have : a = a' := congrArg (fun x : GSem nD τ sig × ℕ × Bool => x.2.2) h
    subst this; rfl
  · exact absurd (congrArg (fun x : GSem nD τ sig × ℕ × Bool => x.1.2) h) (fun h' => by cases h')
  · exact absurd (congrArg (fun x : GSem nD τ sig × ℕ × Bool => x.1.2) h) (fun h' => by cases h')
  · have hs : (some (a, quad k.val) : Cell) = some (a', quad k'.val) :=
      csem_injective (congrArg (fun x : GSem nD τ sig × ℕ × Bool => x.1.2) h)
    have hr : k.val / 4 = k'.val / 4 := congrArg (fun x : GSem nD τ sig × ℕ × Bool => x.2.1) h
    injection hs with hs
    injection hs with ha hq
    have hq : k.val % 4 = k'.val % 4 := congrArg Fin.val hq
    have hk : k = k' := Fin.ext (by omega)
    subst ha hk; rfl
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- The tokens of device `c`'s barrier cell and of its landing cells. -/
def mint (a : Bool) (c : Dev nD) : sProp 𝕄 :=
  iprop(dutyTok ER (barCell c) 0 a ∗ fam (fun k => dutyTok ER (rcell a c k) (k / 4) false) 0 32)
/-- A device's positions on its own cells, and where those have come to. -/
def ats (c : Dev nD) : sProp 𝕄 := bigSep Finset.univ fun k : Cell => atPos ER (kcell (c, k)) 0 ∅ 0
def come0 (c : Dev nD) : sProp 𝕄 := bigSep Finset.univ fun k : Cell => reached ER (kcell (c, k)) 0

instance come0_persistent : BI.Persistent (come0 (F := F) c) := by unfold come0; infer_instance

/-- What the launch element deals device `c`. -/
def G (c : Dev nD) : sProp 𝕄 :=
  iprop((bigSep Finset.univ fun k : Cell => roundState ER (sched m) (kcell (c, k)) 0) ∗ ats c ∗ come0 c ∗ bigSep Finset.univ fun a : Bool => mint a c)

theorem fam_fin {M : Type} [URA M] (Φ : ℕ → sProp M) (n : ℕ) : bigSep Finset.univ (fun k : Fin n => Φ k.val) = fam Φ 0 n := by
  unfold fam
  have h : Finset.Ico 0 n = (Finset.univ : Finset (Fin n)).map Fin.valEmbedding := by
    ext k
    simp only [Finset.mem_Ico, Finset.mem_map, Finset.mem_univ, true_and, Fin.valEmbedding_apply]
    exact ⟨fun h => ⟨⟨k, h.2⟩, rfl⟩, fun ⟨x, hx⟩ => ⟨Nat.zero_le _, hx ▸ x.isLt⟩⟩
  rw [h, bigSep_map]
  rfl

theorem toks_minted : bigSep ringToks (fun x => (dutyTok ER x.1 x.2.1 x.2.2 : sProp 𝕄)) = bigSep Finset.univ fun c : Dev nD => bigSep Finset.univ fun a : Bool => mint a c := by
  unfold ringToks; rw [bigSep_map, bigSep_univ_prod]
  refine bigSep_congr fun c _ => ?_
  unfold mint
  rw [bigSep_univ_sum, bigSep_sep', bigSep_univ_prod]
  refine congrArg₂ _ rfl (bigSep_congr fun a _ => ?_)
  exact fam_fin (fun k => (dutyTok ER (rcell a c k) (k / 4) false : sProp 𝕄)) 32

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_minted (F := F))) $$ Htok
  unfold G ats come0; simp only [bigSep_sep']
  isplitl [Hst']; · iexact Hst'
  isplitl [Hat']; · iexact Hat'
  isplitl [Hr']; · iexact Hr'
  iexact Htok'

/-! ## The device's semaphores -/

/-- The kernel's own semaphores, as the launch lists them. -/
abbrev osem (j : Fin 20) : SemLoc sig := .dma ⟨1 + j.val, by have := j.isLt; show 1 + j.val < 21; omega⟩

theorem ownSemFacts : Pipeline.OwnSemFacts cfg0.spec osem := by decide

/-- The semaphores of its own copies, all at zero. -/
def zeros : sProp 𝕄 := iprop((zero c (sem2 cc0_scratch7 0) ∗ zero c (sem2 cc0_scratch7 1)) ∗ (zero c (sem2 cc0_scratch8 0) ∗ zero c (sem2 cc0_scratch8 1))
  ∗ (zero c (sem2 cc0_scratch9 0) ∗ zero c (sem2 cc0_scratch9 1)) ∗ (zero c (sem2 cc0_scratch10 0) ∗ zero c (sem2 cc0_scratch10 1))
  ∗ (zero c (sem2 cc0_scratch11 0) ∗ zero c (sem2 cc0_scratch11 1)) ∗ (zero c (sem2 cc0_scratch13 0) ∗ zero c (sem2 cc0_scratch13 1)))

theorem bigSep_cell (Φ : Cell → sProp 𝕄) : bigSep Finset.univ Φ
    = iprop(Φ none ∗ (Φ (some (false, 0)) ∗ Φ (some (false, 1)) ∗ Φ (some (false, 2)) ∗ Φ (some (false, 3)))
      ∗ (Φ (some (true, 0)) ∗ Φ (some (true, 1)) ∗ Φ (some (true, 2)) ∗ Φ (some (true, 3)))) := by
  have e : bigSep Finset.univ Φ = iprop(Φ none ∗ Φ (some (false, 0)) ∗ Φ (some (false, 1)) ∗ Φ (some (false, 2)) ∗ Φ (some (false, 3))
      ∗ Φ (some (true, 0)) ∗ Φ (some (true, 1)) ∗ Φ (some (true, 2)) ∗ Φ (some (true, 3))) :=
    bigSep_univ_eq_bigSepL [none, some (false, 0), some (false, 1), some (false, 2), some (false, 3), some (true, 0), some (true, 1), some (true, 2), some (true, 3)] (by decide) (by decide) Φ
  have h (A B C D R : sProp 𝕄) : iprop(A ∗ B ∗ C ∗ D ∗ R) = iprop((A ∗ B ∗ C ∗ D) ∗ R) := by
    have h₁ : iprop(A ∗ B ∗ C ∗ D ∗ R) ⊢ iprop((A ∗ B ∗ C ∗ D) ∗ R) := by
      iintro ⟨HA, HB, HC, HD, HR⟩
      isplitr [HR]
      · isplitl [HA]; · iexact HA
        isplitl [HB]; · iexact HB
        isplitl [HC] <;> iassumption
      · iexact HR
    have h₂ : iprop((A ∗ B ∗ C ∗ D) ∗ R) ⊢ iprop(A ∗ B ∗ C ∗ D ∗ R) := by
      iintro ⟨⟨HA, HB, HC, HD⟩, HR⟩
      isplitl [HA]; · iexact HA
      isplitl [HB]; · iexact HB
      isplitl [HC]; · iexact HC
      isplitl [HD] <;> iassumption
    exact BI.Entails.antisymm h₁ h₂
  rw [e]
  exact congrArg (fun R => iprop(Φ none ∗ R)) (h _ _ _ _ _)

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq : (Pipeline.ownSems0 (Ix := ℕ) (Name := ℕ) (U := UU) (Lvl := ℕ) (Val := Elt F) (τ := τ) osem c : sProp 𝕄)
    = iprop(zero c (sem2 cc0_scratch7 0) ∗ zero c (sem2 cc0_scratch7 1) ∗ zero c (sem2 cc0_scratch8 0) ∗ zero c (sem2 cc0_scratch8 1)
      ∗ zero c (sem2 cc0_scratch9 0) ∗ zero c (sem2 cc0_scratch9 1) ∗ zero c (sem2 cc0_scratch10 0) ∗ zero c (sem2 cc0_scratch10 1)
      ∗ zero c (sem2 cc0_scratch11 0) ∗ zero c (sem2 cc0_scratch11 1)
      ∗ zero c (rsem false 0) ∗ zero c (rsem false 1) ∗ zero c (rsem false 2) ∗ zero c (rsem false 3)
      ∗ zero c (sem2 cc0_scratch13 0) ∗ zero c (sem2 cc0_scratch13 1)
      ∗ zero c (rsem true 0) ∗ zero c (rsem true 1) ∗ zero c (rsem true 2) ∗ zero c (rsem true 3)) := by
  rw [Pipeline.ownSems0_eq_of_list c osem [0, 1, 2, 3, 4, 5, 6, 7, 8, 9, 10, 11, 12, 13, 14, 15, 16, 17, 18, 19] (by decide) (by decide)]; rfl

/-- The semaphores of a device: those of its own copies, and its cells'. -/
theorem sems_eq : (iprop(Pipeline.ownSems0 (Ix := ℕ) (Name := ℕ) (U := UU) (Lvl := ℕ) (Val := Elt F) (τ := τ) osem c ∗ unscopedSems0 c) : sProp 𝕄)
    ⊣⊢ iprop(zeros c ∗ bigSep Finset.univ fun k : Cell => semVal (kcell (c, k)) 0) := by
  rw [ownSems0_eq, unscopedSems0_eq, bigSep_cell]
  unfold zeros
  constructor
  · iintro ⟨⟨H0, H1, H2, H3, H4, H5, H6, H7, H8, H9, R0, R1, R2, R3, H10, H11, S0, S1, S2, S3⟩, HB⟩
    isplitl [H0 H1 H2 H3 H4 H5 H6 H7 H8 H9 H10 H11]
    · isplitl [H0 H1]; · isplitl [H0] <;> iassumption
      isplitl [H2 H3]; · isplitl [H2] <;> iassumption
      isplitl [H4 H5]; · isplitl [H4] <;> iassumption
      isplitl [H6 H7]; · isplitl [H6] <;> iassumption
      isplitl [H8 H9]; · isplitl [H8] <;> iassumption
      isplitl [H10] <;> iassumption
    isplitl [HB]; · iexact HB
    isplitl [R0 R1 R2 R3]
    · isplitl [R0]; · iexact R0
      isplitl [R1]; · iexact R1
      isplitl [R2] <;> iassumption
    · isplitl [S0]; · iexact S0
      isplitl [S1]; · iexact S1
      isplitl [S2] <;> iassumption
  · iintro ⟨⟨⟨H0, H1⟩, ⟨H2, H3⟩, ⟨H4, H5⟩, ⟨H6, H7⟩, ⟨H8, H9⟩, H10, H11⟩, HB, ⟨R0, R1, R2, R3⟩, S0, S1, S2, S3⟩
    isplitr [HB]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [R0]; · iexact R0
      isplitl [R1]; · iexact R1
      isplitl [R2]; · iexact R2
      isplitl [R3]; · iexact R3
      isplitl [H10]; · iexact H10
      isplitl [H11]; · iexact H11
      isplitl [S0]; · iexact S0
      isplitl [S1]; · iexact S1
      isplitl [S2] <;> iassumption
    · iexact HB

/-! ## The global step -/

/-- What a device pays with. -/
def payToks : sProp 𝕄 := bigSep Finset.univ fun a : Bool => mint a (nbr a c)

/-- The persistent part of what a device starts from. -/
def known : sProp 𝕄 :=
  iprop((bigSep Finset.univ fun ck : Dev nD × Cell => cellInv ER (sched m) (K ck) (kcell ck)) ∗ bigSep Finset.univ fun c : Dev nD => come0 c)
instance known_persistent : BI.Persistent (known m K) := by unfold known; infer_instance

def G' : sProp 𝕄 := iprop(∃ K, known m K ∗ ats c ∗ payToks c ∗ zeros c)

theorem core_alloc :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ ats c ∗ come0 c ∗ (bigSep Finset.univ fun a : Bool => mint a c) ∗ zeros c) := by
  unfold G
  iintro ⟨Hos, Hus, Hst, Hat, Hr, Htok⟩
  ihave Hv := (sems_eq (F := F) c).1 $$ [Hos Hus]
  · isplitl [Hos] <;> iassumption
  icases Hv with ⟨Hz, Hv⟩
  imod (show iprop((bigSep Finset.univ fun k : Cell => semVal (kcell (c, k)) 0) ∗ bigSep Finset.univ fun k : Cell => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok] <;> iassumption

/-- Going to the neighbour along an axis, as a rearrangement of the devices. -/
def flip (a : Bool) : Dev nD ≃ Dev nD := ⟨nbr a, nbr a, nbr_nbr a, nbr_nbr a⟩

theorem around (Φ : Bool → Dev nD → sProp 𝕄) :
    (bigSep Finset.univ fun c : Dev nD => bigSep Finset.univ fun a : Bool => Φ a c) = bigSep Finset.univ fun c : Dev nD => bigSep Finset.univ fun a : Bool => Φ a (nbr a c) := by
  rw [bigSep_univ_comm (fun c a => Φ a c), bigSep_univ_comm (fun c a => Φ a (nbr a c))]
  exact bigSep_congr fun a _ => bigSep_univ_equiv (flip a) (fun c => Φ a c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ ats c ∗ come0 c ∗ (bigSep Finset.univ fun a : Bool => mint a c) ∗ zeros c) : sProp 𝕄)
      ⊢ bigSep Finset.univ (G' m) := by
  rw [bigSep_sep', bigSep_sep', bigSep_sep', bigSep_sep', ← bigSep_univ_prod (fun ck : Dev nD × Cell => iprop(∃ κ : ℕ, cellInv ER (sched m) κ (kcell ck))), around]
  iintro ⟨HI, Hat, #HR, Htok, Hz⟩
  ihave HK := (BI.bigSep_exists_pi Finset.univ (fun (ck : Dev nD × Cell) (κ : ℕ) => (cellInv ER (sched m) κ (kcell ck) : sProp 𝕄))) $$ HI
  icases HK with ⟨%K, #HI⟩
  iapply (with_persistent (R := known m K) (Φ := fun c => iprop(ats c ∗ payToks c ∗ zeros c)) fun c _ => by
    show iprop(known m K ∗ ats c ∗ payToks c ∗ zeros c) ⊢ G' m c
    unfold G'
    iintro H
    iexists K
    iexact H)
  isplitr
  · unfold known; isplitl; · iexact HI
    iexact HR
  · simp only [bigSep_sep']
    isplitl [Hat]; · iexact Hat
    isplitl [Htok]; · unfold payToks; iexact Htok
    iexact Hz

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credits -/

/-- What the neighbour along an axis owes device `e`. -/
def share (a : Bool) (e : Dev nD) : CellTallies nD τ sig ℕ := (∑ k ∈ Finset.Ico 0 32, tallyAt (rcell a e k) k N) + tallyAt (barCell e) 0 1

theorem owed_eq (d : Dev nD) : O₀ d = share false (nbr false d) + share true (nbr true d) := by
  unfold O₀ O₁ due ow share
  ac_rfl

theorem share_ne (a : Bool) (e : Dev nD) (g : GSem nD τ sig) (h : g.1 ≠ (e : Thread nD τ)) : share a e g = 0 := by
  unfold share
  rw [Pi.add_apply, Finset.sum_apply, tallyAt_ne_cell (fun h' => h (congrArg Prod.fst h')), add_zero]
  exact Finset.sum_eq_zero fun k _ => tallyAt_ne_cell (fun h' => h (congrArg Prod.fst h')) _ _

theorem credit_at (sm : SemLoc sig) : launchCredit (Pipeline.owing O₀) 0 ((c : Thread nD τ), sm) = (share false c + share true c) ((c : Thread nD τ), sm) := by
  refine Finsupp.ext fun ι => ?_
  rw [Pipeline.launchCredit_owing, Finset.sum_congr rfl fun d _ => by rw [owed_eq d]]
  have hs (a : Bool) : ∑ d : Dev nD, share a (nbr a d) ((c : Thread nD τ), sm) ι = share a c ((c : Thread nD τ), sm) ι := by
    refine ((flip a).sum_comp (fun e => share a e ((c : Thread nD τ), sm) ι)).trans ?_
    refine Finset.sum_eq_single c (fun e _ he => ?_) (fun h => absurd (Finset.mem_univ _) h)
    rw [share_ne a e _ (fun h => he (congrArg Prod.fst h).symm)]; rfl
  simp only [Pi.add_apply, Finsupp.add_apply]
  rw [Finset.sum_add_distrib, hs, hs]

theorem cred_sum {I : Type} [DecidableEq I] (S : Finset I) (T : I → CellTallies nD τ sig ℕ) :
    (cred (∑ i ∈ S, T i) : sProp 𝕄) = bigSep S fun i => cred (T i) := by
  induction S using Finset.induction_on with
  | empty => rw [Finset.sum_empty, cred_zero, bigSep_empty]; rfl
  | insert i S hi ih => rw [Finset.sum_insert hi, bigSep_insert hi, ← ih]; exact BI.Entails.antisymm (cred_add _ _).1 (cred_add _ _).2

theorem launchCred_eq : (Pipeline.launchCred O₀ c : sProp 𝕄) = cred (share false c + share true c) := by
  unfold Pipeline.launchCred
  rw [← cred_sum]
  congr 1
  funext g
  rw [Finset.sum_apply]
  by_cases hg : g.1 = (c : Thread nD τ)
  · obtain ⟨t, sm⟩ := g
    dsimp only at hg
    subst hg
    rw [Finset.sum_eq_single sm (fun sm' _ h => tallyOn_ne (fun h' => h (congrArg Prod.snd h').symm) _) (fun h => absurd (Finset.mem_univ _) h), tallyOn_self, credit_at]
  · rw [Pi.add_apply, share_ne _ _ _ hg, share_ne _ _ _ hg, add_zero]
    exact Finset.sum_eq_zero fun sm _ => tallyOn_ne (fun h' => hg (congrArg Prod.fst h')) _

theorem creds_intro : (Pipeline.launchCred O₀ c : sProp 𝕄) ⊢ iprop(creds false c 0 ∗ creds true c 0 ∗ cred (tallyAt (barCell c) 0 2)) := by
  have hc (a : Bool) : (cred (share a c) : sProp 𝕄) ⊢ iprop(creds a c 0 ∗ cred (tallyAt (barCell c) 0 1)) := by
    unfold share creds fam
    rw [← cred_sum]
    exact (cred_add _ _).1
  rw [launchCred_eq, show 2 = 1 + 1 from rfl, ← tallyAt_add]
  iintro H
  ihave H := (cred_add _ _).1 $$ H
  icases H with ⟨H1, H2⟩
  ihave H1 := (hc false) $$ H1
  ihave H2 := (hc true) $$ H2
  icases H1 with ⟨H1, B1⟩
  icases H2 with ⟨H2, B2⟩
  isplitl [H1]; · iexact H1
  isplitl [H2]; · iexact H2
  iapply (cred_add _ _).2
  isplitl [B1] <;> iassumption

end Cert.KernelIdeal.Hand
-- ==== Proof.RunIdeal.lean ====
module

public import proofs.«01_k».proof.Proof.GhostIdeal
public import proofs.«01_k».proof.Proof.Gen.KernelIdeal.Launch
public import Idealize.ShloMosaic.Lib.Tactic
public import Idealize.ShloMosaic.Lib.Pipeline.CollectiveSegs

/-!
The run: from any memory with every counter zero, each device ends with its arguments as they were, every counter zero, and
its result array holding its own chunks and its neighbour's.
-/

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Cell → ℕ) (c : Dev nD)

/-- What the body starts from, beside the scratch buffers. -/
def start : sProp 𝕄 :=
  iprop(G' m c ∗ (creds false c 0 ∗ creds true c 0 ∗ cred (tallyAt (barCell c) 0 2)) ∗ levAts L lv
    ∗ ((c : Thread nD τ).loc main_arg0 ↦{fullShare} m ((c : Thread nD τ).loc main_arg0))
    ∗ ((c : Thread nD τ).loc main_arg1 ↦{fullShare} m ((c : Thread nD τ).loc main_arg1))
    ∗ ((c : Thread nD τ).loc main_v1 ↦{fullShare} m ((c : Thread nD τ).loc main_v1)))

/-- The arrays in the end. -/
def arrays : sProp 𝕄 :=
  iprop(((c : Thread nD τ).loc main_arg0 ↦{fullShare} m ((c : Thread nD τ).loc main_arg0))
    ∗ ((c : Thread nD τ).loc main_arg1 ↦{fullShare} m ((c : Thread nD τ).loc main_arg1))
    ∗ ∃ g : Buf (Elt F) ((c : Thread nD τ).loc main_v1), ⌜Holds m c g⌝ ∗ ((c : Thread nD τ).loc main_v1 ↦{fullShare} g))

def Φ₀ : sProp 𝕄 := iprop(start m c ∗ Pipeline.scopedRest cfg0.spec c)
def Φ₁ : sProp 𝕄 := iprop((arrays m c ∗ unscopedSems0 c) ∗ Pipeline.ownSems0 osem c ∗ Pipeline.scopedRest cfg0.spec c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => gv m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The scratch buffers. -/
theorem scratch_eq : (Pipeline.scopedRest (Ix := ℕ) (Name := ℕ) (U := UU) (Lvl := ℕ) (Val := Elt F) cfg0.spec c : sProp 𝕄)
    = iprop(ownsAny (c : Thread nD τ) own32 ∗ ownsAny (c : Thread nD τ) resV ∗ ownsAny (c : Thread nD τ) own16 ∗ ownsAny (c : Thread nD τ) recY
      ∗ ownsAny (c : Thread nD τ) outV ∗ ownsAny (c : Thread nD τ) out16 ∗ ownsAny (c : Thread nD τ) recX) := by
  rw [show cfg0.spec = spec0 from rfl, scopedRest0_eq, whole_any, whole_any, whole_any, whole_any, whole_any, whole_any, whole_any]

theorem come0_at (d : Dev nD) (k : Cell) : (bigSep Finset.univ fun c : Dev nD => come0 (F := F) c) ⊢ reached ER (kcell (d, k)) 0 :=
  (bigSep_elim (Φ := fun c : Dev nD => come0 (F := F) c) (Finset.mem_univ d)).trans (bigSep_elim (Φ := fun k : Cell => reached ER (kcell (d, k)) 0) (Finset.mem_univ k))

/-- What it takes to hand the landing slots of an axis over. -/
theorem hand_over (a : Bool) (s : Fin 4 → sProp 𝕄) (hs : ∀ i : Fin 4, s i = ownsAny (c : Thread nD τ) (lslot a i.val)) :
    iprop((s 0 ∗ s 1 ∗ s 2 ∗ s 3) ∗ bigSep Finset.univ fun c : Dev nD => come0 (F := F) c) ⊢ barPay a (nbr a c) := by
  have h : (barPay a (nbr a c) : sProp 𝕄) = iprop(freed a c 0 ∗ freed a c 1 ∗ freed a c 2 ∗ freed a c 3) := by
    unfold barPay; rw [nbr_nbr]; exact fam_four (fun i => freed a c i) 0
  rw [h, hs, hs, hs, hs]
  unfold freed
  iintro ⟨⟨H0, H1, H2, H3⟩, #HR⟩
  isplitl [H0]
  · isplitl [H0]; · iexact H0
    iapply (come0_at (F := F) c (some (a, 0))); iexact HR
  isplitl [H1]
  · isplitl [H1]; · iexact H1
    iapply (come0_at (F := F) c (some (a, 1))); iexact HR
  isplitl [H2]
  · isplitl [H2]; · iexact H2
    iapply (come0_at (F := F) c (some (a, 2))); iexact HR
  · isplitl [H3]; · iexact H3
    iapply (come0_at (F := F) c (some (a, 3))); iexact HR

theorem payToks_eq : (payToks c : sProp 𝕄) = iprop((dutyTok ER (barCell (nbr false c)) 0 false ∗ toks false c 0) ∗ (dutyTok ER (barCell (nbr true c)) 0 true ∗ toks true c 0)) :=
  bigSep_univ_eq_bigSepL [false, true] (by decide) (by decide) fun a => mint a (nbr a c)

theorem ats_eq : (ats c : sProp 𝕄) = iprop(atPos ER (barCell c) 0 ∅ 0 ∗ poss false c 0 ∗ poss true c 0) := by
  unfold ats poss
  rw [bigSep_cell, fam_four, fam_four]
  rfl

variable (gM : Memref sig .tc .vmem S2048 .f32)

theorem begin_intro :
    iprop(Φ₀ m c ∗ (∃ W, owes (c : Thread nD τ) (O₀ c) W) ∗ owns (c : Thread nD τ) gM fullShare (gv m c))
      ⊢ iprop(∃ K, (Begin m c gM ∗ recs m K) ∗ keepP m c ∗ keepR m c) := by
  unfold Φ₀ start G' Begin sends
  rw [scratch_eq, arg0_cut, arg1_cut, payToks_eq, ats_eq, slots2 c own32, slots2 c resV, slots2 c own16, slots4 c recY, slots2 c out16, slots4 c recX]
  unfold zeros YI XI PI RI
  iintro ⟨⟨⟨⟨%K, #Hk, ⟨HaB, Hpy, Hpx⟩, ⟨⟨Hsy, Hty⟩, Hsx, Htx⟩, ⟨Z70, Z71⟩, ⟨Z80, Z81⟩, ⟨Z90, Z91⟩, ⟨Za0, Za1⟩, ⟨Zb0, Zb1⟩, Zd0, Zd1⟩,
    ⟨Hcy, Hcx, Hcb⟩, #Hlev, ⟨HtP, HkP⟩, ⟨HtR, HkR⟩, Hv⟩, ⟨P0, P1⟩, ⟨R0, R1⟩, ⟨Y0, Y1⟩, Hry, Hout, ⟨X0, X1⟩, Hrx⟩, HO, Hg⟩
  ihave Hv := (out_cut c _) $$ Hv
  icases Hv with ⟨HtO, HtX⟩
  unfold known
  icases Hk with ⟨#HI, #HR⟩
  ihave Hby := (hand_over c false (fun i => ownsAny (c : Thread nD τ) (slot4 recY i)) (fun i => by fin_cases i <;> rfl)) $$ [Hry]
  · isplitl [Hry]; · iexact Hry
    iexact HR
  ihave Hbx := (hand_over c true (fun i => ownsAny (c : Thread nD τ) (slot4 recX i)) (fun i => by fin_cases i <;> rfl)) $$ [Hrx]
  · isplitl [Hrx]; · iexact Hrx
    iexact HR
  iexists K
  isplitr [HkP HkR]
  · isplitl
    · isplitl [HO]; · iexact HO
      isplitl [Hsy Hby Hty Hcy Hpy]
      · isplitl [Hsy]; · iexact Hsy
        isplitr; · iapply (come0_at (F := F) (nbr false c) none); iexact HR
        isplitl [Hby]; · iexact Hby
        isplitl [Hty]; · iexact Hty
        isplitl [Hcy] <;> iassumption
      isplitl [Hsx Hbx Htx Hcx Hpx]
      · isplitl [Hsx]; · iexact Hsx
        isplitr; · iapply (come0_at (F := F) (nbr true c) none); iexact HR
        isplitl [Hbx]; · iexact Hbx
        isplitl [Htx]; · iexact Htx
        isplitl [Hcx] <;> iassumption
      isplitl [Hcb]; · iexact Hcb
      isplitl [HaB]; · iexact HaB
      isplitl [Y0 Zb0]
      · isplitl [Y0]; · iexact Y0
        iexact Zb0
      isplitl [Y1 Zb1]
      · isplitl [Y1]; · iexact Y1
        iexact Zb1
      isplitl [X0 Zd0 Z90]
      · isplitl [X0]; · iexact X0
        isplitl [Zd0]; · iexact Zd0
        iexact Z90
      isplitl [X1 Zd1 Z91]
      · isplitl [X1]; · iexact X1
        isplitl [Zd1]; · iexact Zd1
        iexact Z91
      isplitl [Za0]; · iexact Za0
      isplitl [Za1]; · iexact Za1
      isplitl [P0 Z70]
      · isplitl [P0]; · iexact P0
        iexact Z70
      isplitl [P1 Z71]
      · isplitl [P1]; · iexact P1
        iexact Z71
      isplitl [R0 Z80]
      · isplitl [R0]; · iexact R0
        iexact Z80
      isplitl [R1 Z81]
      · isplitl [R1]; · iexact R1
        iexact Z81
      isplitl [HtP]; · iexact HtP
      isplitl [HtR]; · iexact HtR
      isplitl [HtO]; · iexact HtO
      isplitl [HtX]; · iexact HtX
      isplitl [Hout] <;> iassumption
    · unfold recs
      isplitr <;> iassumption
  · isplitl [HkP] <;> iassumption

/-- A cell with nothing more to come closes. -/
theorem close_landing (a : Bool) (i : ℕ) (h : 32 ≤ i) : iprop(pos a c i ∗ recs m K) ⊢ (|={Set.univ}=> zero c (rsem a (quad i)) : sProp 𝕄) := by
  iintro ⟨Hat, #Hrec⟩
  ihave HI := (recs_inv m K a c i) $$ Hrec
  imod (Rounds.cell_close ER (sched m) (Set.mem_univ (K (c, some (a, quad i)))) (fun h => h) (R := i / 4) (fun r hr => duties_r_later m a c (quad i) r (by omega))) $$ [Hat HI] with Hz
  · isplitl [HI] <;> iassumption
  imodintro
  iexact Hz

theorem close_bar : iprop(atPos ER (barCell c) 1 ∅ 0 ∗ recs m K) ⊢ (|={Set.univ}=> semVal (barCell c) 0 : sProp 𝕄) := by
  iintro ⟨Hat, #Hrec⟩
  ihave HI := (recs_bar m K c) $$ Hrec
  imod (Rounds.cell_close ER (sched m) (Set.mem_univ (K (c, none))) (fun h => h) (R := 1) (fun r hr => duties_bar_later m c r hr)) $$ [Hat HI] with Hz
  · isplitl [HI] <;> iassumption
  imodintro
  iexact Hz

theorem close_axis (a : Bool) : iprop(poss a c 32 ∗ recs m K)
    ⊢ (|={Set.univ}=> (zero c (rsem a 0) ∗ zero c (rsem a 1) ∗ zero c (rsem a 2) ∗ zero c (rsem a 3)) : sProp 𝕄) := by
  unfold poss
  rw [fam_four]
  iintro ⟨⟨H0, H1, H2, H3⟩, #Hrec⟩
  imod (close_landing m K c a 32 (by omega)) $$ [H0] with H0
  · isplitl [H0]; · iexact H0
    iexact Hrec
  imod (close_landing m K c a (32 + 1) (by omega)) $$ [H1] with H1
  · isplitl [H1]; · iexact H1
    iexact Hrec
  imod (close_landing m K c a (32 + 2) (by omega)) $$ [H2] with H2
  · isplitl [H2]; · iexact H2
    iexact Hrec
  imod (close_landing m K c a (32 + 3) (by omega)) $$ [H3] with H3
  · isplitl [H3]; · iexact H3
    iexact Hrec
  imodintro
  isplitl [H0]; · iexact H0
  isplitl [H1]; · iexact H1
  isplitl [H2]; · iexact H2
  iexact H3

theorem freed_slot (a : Bool) (i : ℕ) : (freed a c i : sProp 𝕄) ⊢ ownsAny (c : Thread nD τ) (lslot a i) := sep_elim_left

theorem slots_back (a : Bool) (P : sProp 𝕄) (s : Fin 4 → sProp 𝕄) (hs : ∀ i : Fin 4, s i = ownsAny (c : Thread nD τ) (lslot a (32 + i.val)))
    (hP : P ⊢ iprop(freed a c 32 ∗ freed a c (32 + 1) ∗ freed a c (32 + 2) ∗ freed a c (32 + 3))) : P ⊢ iprop(s 0 ∗ s 1 ∗ s 2 ∗ s 3) := by
  rw [hs, hs, hs, hs]
  refine hP.trans ?_
  iintro ⟨H0, H1, H2, H3⟩
  isplitl [H0]; · iapply (freed_slot c a 32); iexact H0
  isplitl [H1]; · iapply (freed_slot c a (32 + 1)); iexact H1
  isplitl [H2]; · iapply (freed_slot c a (32 + 2)); iexact H2
  iapply (freed_slot c a (32 + 3)); iexact H3

theorem heldY_back : (heldY c 33 : sProp 𝕄) ⊢ iprop(freed false c 32 ∗ freed false c (32 + 1) ∗ freed false c (32 + 2) ∗ freed false c (32 + 3)) := by
  have h : (heldY c 33 : sProp 𝕄) = fam (fun k => freed false c k) 32 (32 + 4) := rfl
  rw [h, fam_four]
theorem heldX_back : iprop(freed true c 35 ∗ freed true c 34 ∗ heldX c 32) ⊢ (iprop(freed true c 32 ∗ freed true c (32 + 1) ∗ freed true c (32 + 2) ∗ freed true c (32 + 3)) : sProp 𝕄) := by
  have h : (heldX c 32 : sProp 𝕄) = iprop(freed true c 32 ∗ freed true c (32 + 1) ∗ emp) := by
    unfold heldX; rw [fam_take _ (by omega), fam_take _ (by omega), fam_nil _ (by omega)]
  rw [h]
  iintro ⟨H3, H2, H0, H1, -⟩
  isplitl [H0]; · iexact H0
  isplitl [H1]; · iexact H1
  isplitl [H2] <;> iassumption

theorem end_elim :
    iprop((End m c gM ∗ atPos ER (barCell c) 1 ∅ 0) ∗ recs m K ∗ keepP m c ∗ keepR m c)
      ⊢ |={Set.univ}=> iprop(Φ₁ m c ∗ (∃ W, owes (c : Thread nD τ) 0 W) ∗ owns (c : Thread nD τ) gM fullShare (gv m c)) := by
  unfold End
  iintro ⟨⟨⟨HO, Hhy, Hhx, Hpy, Hpx, HY, HY', HX, HX', Za0, Za1, HP, HP', HR, HR', HdP, HdR, HdO, HdX, Hout, Hg⟩, HaB⟩, #Hrec, HkP, HkR⟩
  imod (close_bar m K c) $$ [HaB] with HzB
  · isplitl [HaB]; · iexact HaB
    iexact Hrec
  imod (close_axis m K c false) $$ [Hpy] with Hzy
  · isplitl [Hpy]; · iexact Hpy
    iexact Hrec
  imod (close_axis m K c true) $$ [Hpx] with Hzx
  · isplitl [Hpx]; · iexact Hpx
    iexact Hrec
  imodintro
  ihave HsY := (slots_back c false _ (fun i => ownsAny (c : Thread nD τ) (slot4 recY i)) (fun i => by fin_cases i <;> rfl) (heldY_back c)) $$ Hhy
  ihave HsX := (slots_back c true _ (fun i => ownsAny (c : Thread nD τ) (slot4 recX i)) (fun i => by fin_cases i <;> rfl) (heldX_back c)) $$ Hhx
  ihave Hv := (out_join m c) $$ [HdO HdX]
  · isplitl [HdO] <;> iassumption
  unfold Φ₁ arrays YI XI PI RI
  rw [scratch_eq, arg0_cut, arg1_cut, slots2 c own32, slots2 c resV, slots2 c own16, slots4 c recY, slots2 c out16, slots4 c recX,
    show todoP m c 0 = doneP m c 32 from rfl, show todoR m c 0 = doneR m c 32 from rfl]
  icases HY with ⟨Y0, Zb0⟩
  icases HY' with ⟨Y1, Zb1⟩
  icases HX with ⟨X0, Zd0, Z90⟩
  icases HX' with ⟨X1, Zd1, Z91⟩
  icases HP with ⟨P0, Z70⟩
  icases HP' with ⟨P1, Z71⟩
  icases HR with ⟨R0, Z80⟩
  icases HR' with ⟨R1, Z81⟩
  isplitr [HO Hg]
  · ihave Hs := (sems_eq (F := F) c).2 $$ [HzB Hzy Hzx Z70 Z71 Z80 Z81 Z90 Z91 Za0 Za1 Zb0 Zb1 Zd0 Zd1]
    · rw [bigSep_cell]
      unfold zeros
      isplitr [HzB Hzy Hzx]
      · isplitl [Z70 Z71]
        · isplitl [Z70]; · iexact Z70
          iexact Z71
        isplitl [Z80 Z81]
        · isplitl [Z80]; · iexact Z80
          iexact Z81
        isplitl [Z90 Z91]
        · isplitl [Z90]; · iexact Z90
          iexact Z91
        isplitl [Za0 Za1]
        · isplitl [Za0]; · iexact Za0
          iexact Za1
        isplitl [Zb0 Zb1]
        · isplitl [Zb0]; · iexact Zb0
          iexact Zb1
        isplitl [Zd0]; · iexact Zd0
        iexact Zd1
      · isplitl [HzB]; · iexact HzB
        isplitl [Hzy]; · iexact Hzy
        iexact Hzx
    icases Hs with ⟨Hos, Hus⟩
    isplitl [HdP HdR HkP HkR Hv Hus]
    · isplitr [Hus]
      · isplitl [HdP HkP]
        · isplitl [HdP]; · iexact HdP
          iexact HkP
        isplitl [HdR HkR]
        · isplitl [HdR]; · iexact HdR
          iexact HkR
        iexact Hv
      · iexact Hus
    isplitl [Hos]; · iexact Hos
    isplitl [P0 P1]
    · isplitl [P0]; · iexact P0
      iexact P1
    isplitl [R0 R1]
    · isplitl [R0]; · iexact R0
      iexact R1
    isplitl [Y0 Y1]
    · isplitl [Y0]; · iexact Y0
      iexact Y1
    isplitl [HsY]; · iexact HsY
    isplitl [Hout]; · iexact Hout
    isplitl [X0 X1]
    · isplitl [X0]; · iexact X0
      iexact X1
    iexact HsX
  · isplitl [HO] <;> iassumption

theorem before_eq (d : (cfg0.win 0).block.Idx → Elt F (cfg0.win 0).elt) : (dats m ρ 0 c).before (0 : Fin 1) t0_0 d = gv m c := by
  unfold Dat.before
  rw [if_pos (fetch0_0 t0_0)]
  funext i
  show m ((c : Thread nD τ).loc main_arg2) _ = m ((c : Thread nD τ).loc main_arg2) i
  refine congrArg _ ?_
  funext a
  fin_cases a
  apply Fin.ext
  show 0 * 2048 + 1 * (i 0).val = (i 0).val
  omega

def bodyPre : sProp 𝕄 :=
  iprop(Φ₀ m c ∗ (dats m ρ 0 c).owesAt 0 t0_0.castSucc ∗ (∃ d, owns (c : Thread nD τ) (win0_0.stage (cfg0.slots t0_0 0)) fullShare ((dats m ρ 0 c).before (0 : Fin 1) t0_0 d)))
def bodyPost : sProp 𝕄 :=
  iprop(Φ₁ m c ∗ (dats m ρ 0 c).owesAt 0 t0_0.succ ∗ owns (c : Thread nD τ) (win0_0.stage (cfg0.slots t0_0 0)) fullShare (gv m c))

theorem body_runs : bodyPre m ρ c ⊢ wpK c (whole (win0_0.stage (cfg0.slots t0_0 0))) (fun _ => bodyPost m ρ c) := by
  unfold bodyPre
  iintro ⟨HΦ, ⟨%W, -, HO⟩, ⟨%d, Hg⟩⟩
  ihave H := (begin_intro m c (win0_0.stage (cfg0.slots t0_0 0))) $$ [HΦ HO Hg]
  · isplitl [HΦ]; · iexact HΦ
    isplitl [HO]
    · iexists W; iexact HO
    · rw [before_eq]; iexact Hg
  icases H with ⟨%K, ⟨HB, #Hrec⟩, HkP, HkR⟩
  iapply (wp_whole m K c (win0_0.stage (cfg0.slots t0_0 0)) (fun _ => bodyPost m ρ c)) $$ [HB]
  · isplitl [HB]; · iexact HB
    iexact Hrec
  iintro HE
  imod (end_elim m K c (win0_0.stage (cfg0.slots t0_0 0))) $$ [HE HkP HkR] with ⟨HΦ, ⟨%W', HO⟩, Hg⟩
  · isplitl [HE]; · iexact HE
    isplitr; · iexact Hrec
    isplitl [HkP]; · iexact HkP
    iexact HkR
  imodintro
  unfold bodyPost
  isplitl [HΦ]; · iexact HΦ
  isplitl [HO]
  · iexists W'
    isplitr; · ipureintro; exact fun _ _ => Or.inl trivial
    iexact HO
  · iexact Hg

theorem body_at (t : Fin cfg0.N) : defs₀ (F := F) .tc cfg0.body (cfg0.bodyArgs t (cfg0.slots t)) = bodyAt0 t := rfl

theorem body_obligation : BodyObligation (dats (F := F) m ρ 0 c) (defs₀ (F := F)) 𝒱₀ 0 Set.univ := fun t => by
  rw [fin_N0 t]
  rw [bigSep_W0, bigSep_W0]
  rw [body_at, body_eq]
  have h := body_runs m ρ c
  generalize whole (F := F) (win0_0.stage (cfg0.slots t0_0 0)) = p at h ⊢
  exact h

/-! ## The side conditions -/

theorem O₀_pos {c : Dev nD} {g : GSem nD τ sig} {ι : ℕ} (h : 0 < O₀ c g ι) : ι < 32 ∧ 1 ≤ lv g ι ∧ g.1.2 = .tc := by
  unfold O₀ O₁ at h
  rw [Pi.add_apply, Finsupp.add_apply, Pi.add_apply, Finsupp.add_apply, tallyAt_apply, tallyAt_apply] at h
  by_cases h1 : g = barCell (nbr true c) ∧ ι = 0
  · obtain ⟨rfl, rfl⟩ := h1; exact ⟨by decide, by rw [lv_bar], rfl⟩
  by_cases h2 : g = barCell (nbr false c) ∧ ι = 0
  · obtain ⟨rfl, rfl⟩ := h2; exact ⟨by decide, by rw [lv_bar], rfl⟩
  rw [if_neg h1, if_neg h2, Nat.add_zero] at h
  obtain ⟨hi, ⟨-, rfl⟩ | ⟨-, rfl⟩⟩ := due_pos h
  · exact ⟨hi, by rw [lv_r]; omega, rfl⟩
  · exact ⟨hi, by rw [lv_r]; omega, rfl⟩

theorem mayWait_stage (q : DmaSem sig) (hq : ∀ k, csem k ≠ .dma q) (O : CellTallies nD τ sig ℕ) (hO : O = O₀ c ∨ O = 0) :
    (levAts L lv : sProp 𝕄) ⊢ MayWait (c : Thread nD τ) (.dma q) 0 O := by
  rcases hO with rfl | rfl
  · exact MayOwe.of_cut (L := L) (lev := lv) 0 (fun p hp => by rw [Finset.mem_singleton.mp hp, L_tc]; exact Finset.mem_range.mpr (Nat.succ_pos 31))
      (fun g u hg => by unfold L; rw [if_pos (O₀_pos hg).2.2]; exact Finset.mem_range.mpr (O₀_pos hg).1)
      (fun p hp => by rw [Finset.mem_singleton.mp hp]; unfold lv; rw [kindOf_none hq])
      (fun g u hg => (O₀_pos hg).2.1)
  · rw [MayWait_zero]; iintro -; iempintro

theorem waits : (levAts L lv : sProp 𝕄) ⊢ Pipeline.cellsWaits cfgs (dats m ρ) 0 0 c :=
  Pipeline.cellsWaits_intro cfgs (dats m ρ) 0 0 c fun w s t =>
    mayWait_stage c _ (by fin_cases w; fin_cases s; decide) _ (by
      rcases t with ⟨_ | _, ht⟩
      · exact Or.inl rfl
      · exact Or.inr rfl)

theorem shares (c : Dev nD) (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show cfg0.spec = spec0 from rfl, unscopedRest0_eq]
  iintro ⟨⟨H0, H1, Hv⟩, Hlev, Hcr, -, HG⟩
  ihave Hc := (creds_intro (F := F) c) $$ Hcr
  imodintro
  unfold start
  isplitl
  · isplitl [HG]; · iexact HG
    isplitl [Hc]; · iexact Hc
    isplitl [Hlev]; · iexact Hlev
    isplitl [H0]; · iexact H0
    isplitl [H1]; · iexact H1
    iexact Hv
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit :
    (dats m ρ 0 c).Φ (Fin.last cfg0.N) ⊢ iprop((arrays m c ∗ unscopedSems0 c) ∗ Pipeline.ownSems0 osem c ∗ Pipeline.scopedRest cfg0.spec c) := by
  rw [show (dats m ρ 0 c).Φ (Fin.last cfg0.N) = Φ₁ m c from rfl]
  unfold Φ₁
  exact .rfl

/-- What a device's memory holds in the end. -/
def Ends (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ Holds m c (s.mem ((c : Thread nD τ).loc main_v1))

/-- A buffer held whole, read against a state. -/
theorem whole_read (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := Idealize.ShloMosaic.pointsTo_read_all (Ix := ℕ) (Name := ℕ) (U := UU) (Lvl := ℕ) ({()} : Finset Unit) (fun _ => ℓ) (fun _ => f) s'
  rw [bigSep_singleton] at h
  refine h.trans ?_
  iintro ⟨%hr, H⟩
  isplitr
  · ipureintro; exact hr () (Finset.mem_singleton_self ())
  · iexact H

theorem ends_read (s' : Phys nD τ sig (Elt F)) : iprop((arrays m c ∗ unscopedSems0 c) ∗ SI s')
    ⊢ |={Set.univ}=> (iprop(⌜Ends m c s'.mem ∧ ∀ sm : SemLoc sig, sm.isScoped .tc = false → s'.mem.sem ((c.tc : Thread nD τ), sm) = 0⌝ ∗ SI s') : sProp 𝕄) := by
  unfold arrays
  iintro ⟨⟨⟨H0, H1, ⟨%g, %hg, Hv⟩⟩, Hu⟩, HSI⟩
  ihave H := (whole_read _ _ s') $$ [H0 HSI]
  · isplitl [H0]; · iexact H0
    iexact HSI
  icases H with ⟨%h0, HSI⟩
  ihave H := (whole_read _ _ s') $$ [H1 HSI]
  · isplitl [H1]; · iexact H1
    iexact HSI
  icases H with ⟨%h1, HSI⟩
  ihave H := (whole_read _ _ s') $$ [Hv HSI]
  · isplitl [Hv]; · iexact Hv
    iexact HSI
  icases H with ⟨%hv, HSI⟩
  ihave H := (Pipeline.unscopedSems0_read (X := unscopedSems0 c) (c := c) fupd_intro s') $$ [Hu HSI]
  · isplitl [Hu]; · iexact Hu
    iexact HSI
  imod H with ⟨%hs, HSI⟩
  imodintro
  isplitr
  · ipureintro
    exact ⟨⟨⟨h0, h1⟩, by rw [hv]; exact hg⟩, hs⟩
  · iexact HSI

/-! ## The run -/

def QC : PUnit × MemSt nD τ sig (Elt F) → Prop := fun r =>
  ∀ c : Dev nD, Ends m c r.2 ∧ r.2.mem ((c : Thread nD τ).loc main_arg2) = m ((c : Thread nD τ).loc main_arg2)

theorem final_gamma (c : Dev nD) : (dats m ρ 0 c).arrAt (0 : Fin 1) cfg0.N = m ((c : Thread nD τ).loc main_arg2) := by
  rw [(dats m ρ 0 c).arrAt_in (0 : Fin 1) rfl _]
  rfl

set_option maxRecDepth 100000 in
/-- From any memory with zero counters, for any float values, every weakly fair execution of the devices terminates, and ends
    with the arguments unchanged, the result array at the computed contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := shares m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (show BI.own (embR (initOf ringCells ringToks, (1 : Counters))) ⊢ BI.own (ER (F := F) (initOf ringCells ringToks)) from .rfl) $$ HX
      imod (fund_ring m) $$ HX with HG
      imodintro
      isplitl [HP] <;> iassumption)
    (hglob := glob m)
    (hA := fun _ _ => rfl) (hpf := fun _ k => k.elim0)
    (X := start m) (Y := fun c => iprop(arrays m c ∗ unscopedSems0 c)) (Z := fun _ => iprop(emp))
    (hX := start_intro m ρ) (hin := phi0_intro m ρ) (hout := phi1_exit m ρ)
    (QY := fun c s => Ends m c s ∧ ∀ sm : SemLoc sig, sm.isScoped .tc = false → s.sem ((c.tc : Thread nD τ), sm) = 0)
    (hY := fun c s' => by
      iintro ⟨Hu, -, HSI⟩
      iapply (ends_read m c s')
      isplitl [Hu]; · iexact Hu
      iexact HSI)
    (hQ := fun _ h hs => ⟨fun c => ⟨(h c).2.2.1, ((h c).1 0).trans (final_gamma m ρ c)⟩, sem_eq_zero hs fun c => (h c).2.2.2⟩)

end Cert.KernelIdeal.Hand
-- ==== Proof.Frames.lean ====
module
public import proofs.«01_k».proof.Proof.RunIdeal
public import proofs.«01_k».proof.Proof.Gen.Kernel
public import proofs.«01_k».proof.Proof.Gen.ReferenceIdeal.Run
public import Idealize.ShloMosaic.Lib.Quiescent
public import proofs.«01_k».proof.Defs

/-! # The frames of the three programs

The kernel's run is proved once, over any carrier of the floats.  The kernel as written and the kernel in the
ideal numbers are the same program text, so the run at the bit carrier is the kernel's own run. -/

@[expose] public section
noncomputable section
namespace Cert.Hand
open Idealize.ShloMosaic Idealize.SL.Sem

variable {F : FTy → Type} [FloatOps F]

/-- The two copies of the kernel body are one term. -/
theorem same_body : Cert.Kernel.cc0_body (F := F) = (Cert.KernelIdeal.cc0_body (F := F)) := by chain_rfl

/-- The two copies of the launch table agree. -/
theorem same_defs₀ : Cert.Kernel.defs₀ (F := F) = (Cert.KernelIdeal.defs₀ (F := F)) := by
  unfold Cert.Kernel.defs₀ Cert.KernelIdeal.defs₀
  refine congrArg Defs.onTc ?_
  funext l a
  obtain ⟨l, hl⟩ := l
  cases l with
  | zero =>
    obtain ⟨t, s⟩ := a
    show Cert.Kernel.cc0_body (F := F)  _ _ _ _ _ _ _ _ _ _ _ _ _ _ _ _ _ _ _ _ _ _ _ _ _ _ _ _ _ _ = Cert.KernelIdeal.cc0_body (F := F)  _ _ _ _ _ _ _ _ _ _ _ _ _ _ _ _ _ _ _ _ _ _ _ _ _ _ _ _ _ _
    rw [same_body]
  | succ l => exact absurd hl (Nat.not_lt.2 (Nat.le_add_left _ _))

/-- The two copies of the whole table of procedures agree. -/
theorem same_defs : Cert.Kernel.defs (F := F) = (Cert.KernelIdeal.defs (F := F)) := by
  unfold Cert.Kernel.defs Cert.KernelIdeal.defs
  rw [same_defs₀]
  rfl

/-- The kernel as written runs to its end and leaves its arguments alone. -/
theorem frame_kernel : @quiescent_Kernel Cert.Kernel.Gen.facts := by
  intro m g _
  have h := Cert.KernelIdeal.Hand.run_main (F := Bits) m g
  rw [← same_defs] at h
  refine (θ_run _ _ _).mono ?_ h
  exact fun r hr => ⟨fun c => ⟨(hr.1 c).1.1.1, (hr.1 c).1.1.2, (hr.1 c).2⟩, hr.2⟩

/-- The kernel in the ideal numbers runs to its end and leaves its arguments alone. -/
theorem frame_kernelIdeal : @quiescent_KernelIdeal Cert.KernelIdeal.Gen.facts := by
  intro m g _
  refine (θ_run _ _ _).mono ?_ (Cert.KernelIdeal.Hand.run_main (F := Ideal) m g)
  exact fun r hr => ⟨fun c => ⟨(hr.1 c).1.1.1, (hr.1 c).1.1.2, (hr.1 c).2⟩, hr.2⟩

/-- The reference has no semaphores, and its generated run keeps its arguments. -/
theorem frame_referenceIdeal : @quiescent_ReferenceIdeal Cert.ReferenceIdeal.Gen.facts := by
  intro m g _
  exact (θ_run Cert.ReferenceIdeal.defs _ _).mono
    (fun r h => ⟨fun c => (h c).2, sem_eq_zero_of_no_sems (by decide) r.2⟩)
    (Cert.ReferenceIdeal.Value.run (F := Ideal) m g)

end Cert.Hand
end
-- ==== Proof.Norm.lean ====
module
public import Idealize.ShloMosaic.PureOps.Ideal
public import Idealize.ShloMosaic.PureOps.Ideal.Laws

/-!
# Dividing by a root and multiplying by the inverse root

On the extended reals the two agree where the radicand is a positive real or `⊤`, and a sum of squares over 2048, plus a
small positive real, is always one of these.
-/

@[expose] public section
noncomputable section
namespace Cert.Hand
open Idealize.ShloMosaic

/-- The length of a row. -/
theorem word_len : Ideal.ofBits .f32 0x45000000#32 = ((2048 : ℝ) : EReal) := by
  simp [Ideal.ofBits, Ideal.ieee, -EReal.coe_mul]; norm_num

/-- The zero that the sums start from. -/
theorem word_zero : Ideal.ofBits .f32 0x00000000#32 = 0 := by
  simp [Ideal.ofBits, Ideal.ieee]

/-- What is added under the root is a positive real. -/
theorem word_eps : ∃ e : ℝ, 0 < e ∧ Ideal.ofBits .f32 0x358637BD#32 = (e : EReal) := by
  refine ⟨_, ?_, by simp [Ideal.ofBits, Ideal.ieee, -EReal.coe_mul]; rfl⟩
  norm_num

/-- A square is nonnegative, the infinities' too. -/
theorem square_nonneg (y : EReal) : 0 ≤ y * y := by
  induction y with
  | bot => rw [EReal.bot_mul_bot]; exact le_top
  | top => rw [EReal.top_mul_top]; exact le_top
  | coe r => rw [← EReal.coe_mul]; exact_mod_cast mul_self_nonneg r

/-- Dividing by the root of a positive real or of `⊤` is multiplying by the inverse root. -/
theorem div_sqrt (y : EReal) {t : EReal} (h : t = ⊤ ∨ ∃ r : ℝ, 0 < r ∧ t = (r : EReal)) :
    Ideal.div y (Ideal.sqrt t) = y * Ideal.rsqrt t := by
  rcases h with rfl | ⟨r, hr, rfl⟩
  · rw [Ideal.sqrt_top, Ideal.rsqrt_top, Ideal.div, if_neg EReal.top_ne_zero, EReal.inv_top]
  · rw [Ideal.sqrt_coe, Ideal.rsqrt_coe, if_neg (not_lt.mpr hr.le), if_neg (not_lt.mpr hr.le), if_neg hr.ne',
      Ideal.div_coe (Real.sqrt_pos.mpr hr).ne', one_div]

/-- The radicand of a row: the mean square plus the small constant. -/
def radicand (y : Fin 2048 → EReal) : EReal :=
  Ideal.div (∑ k, y k * y k) (Ideal.ofBits .f32 0x45000000#32) + Ideal.ofBits .f32 0x358637BD#32

/-- The radicand is a positive real or `⊤`, whatever the row holds. -/
theorem radicand_pos (y : Fin 2048 → EReal) : radicand y = ⊤ ∨ ∃ r : ℝ, 0 < r ∧ radicand y = (r : EReal) := by
  obtain ⟨e, he, hw⟩ := word_eps
  have hs : 0 ≤ ∑ k, y k * y k := Finset.sum_nonneg fun k _ => square_nonneg (y k)
  unfold radicand
  rw [hw, word_len, Ideal.div_coe (by norm_num)]
  generalize (∑ k, y k * y k) = s at hs ⊢
  induction s with
  | bot => exact absurd hs (not_le.mpr EReal.bot_lt_zero)
  | top => exact .inl (by rw [EReal.top_mul_coe_of_pos (by norm_num), EReal.top_add_coe])
  | coe r =>
    have hr : 0 ≤ r := by exact_mod_cast hs
    exact .inr ⟨r * (1 / 2048) + e, by positivity, by push_cast; rfl⟩

/-- A row normalised and scaled, at one column. -/
def normed (y : Fin 2048 → EReal) (g : EReal) (j : Fin 2048) : EReal := y j * Ideal.rsqrt (radicand y) * g

/-- The same with a division by the root, as the problem writes it. -/
theorem normed_eq (y : Fin 2048 → EReal) (g : EReal) (j : Fin 2048) :
    Ideal.div (y j) (Ideal.sqrt (radicand y)) * g = normed y g j := by
  rw [div_sqrt _ (radicand_pos y)]; rfl

end Cert.Hand
end
-- ==== Proof.Chunk.lean ====
module
public import proofs.«01_k».proof.Proof.Norm
public import proofs.«01_k».proof.Proof.ProtocolIdeal
public import proofs.«01_k».proof.Proof.Gen.ReferenceIdeal.Read
public import Idealize.ShloMosaic.Lib.ValueLayoutCasts
public import Idealize.ShloMosaic.Lib.ValueIdx
public import Idealize.ShloMosaic.Lib.Pipeline.Value

/-!
# One chunk, and the reference, at an index

A device's chunk at a row and a column is the normalised row of what the device adds up there; so is the reference's
result, over the whole arrays.
-/

@[expose] public section
noncomputable section
namespace Cert.KernelIdeal.Hand
open Cert.KernelIdeal Cert.KernelIdeal.Gen Cert.Hand
open Idealize.ShloMosaic Idealize.ShloMosaic.TcCoe Idealize.ShloMosaic.ValueIdx Idealize.SL.Sem

/-- A column of 128 spread over the row reads its own row. -/
theorem column_spread (v : FVec Ideal S128x1 .f32) (p : Fin 128) (j : Fin 2048) :
    broadcastTo S128x2048 v broadcasts_S128x1_S128x2048 (ix2 p j) = v (ix2 p (0 : Fin 1)) :=
  broadcastTo_apply v _ (ix2 p j) (ix2 p (0 : Fin 1)) fun ax => match ax with
    | ⟨0, _⟩ => by show p.val = if (128 : ℕ) = 1 then 0 else p.val; rw [if_neg (by decide)]
    | ⟨1, _⟩ => by show 0 = if (1 : ℕ) = 1 then 0 else j.val; rw [if_pos rfl]

/-- The sum along a row. -/
theorem row_sum (v : FVec Ideal S128x2048 .f32) (p : Fin 128) :
    multiReduction .add [1] S128 v 0x00000000#32 reduces_S128x2048_S128 (.inl rfl) rfl (ix1 p) = ∑ k : Fin 2048, v (ix2 p k) :=
  (Ideal.multiReduction_add_single v _ reduces_S128x2048_S128 _ _ (ix1 p)).trans
    (Finset.sum_congr rfl fun k _ => congrArg v (funext fun a => Fin.ext (match a with | ⟨0, _⟩ => rfl | ⟨1, _⟩ => rfl)))

/-- The inverse root of an array is taken element by element. -/
theorem rsqrt_at {s : Shape} (x : FVec Ideal s .f32) (i : s.Idx) : rsqrt x i = Ideal.rsqrt (x i) := rfl

/-- The normalising step at an index, of a sum `s`, a residual `r` and the scale `g`. -/
theorem step_at (s : FVec Ideal S128x2048 .f32) (r : FVec Ideal S1x128x2048 .f32) (g : FVec Ideal S2048 .f32) (p : Fin 128) (j : Fin 2048) :
    k0_pay4 (F := Ideal) s r g (ix2 p j) = normed (fun k => s (ix2 p k) + r (ix3 (0 : Fin 1) p k)) (g (ix1 j)) j := by
  have hy (k : Fin 2048) : addf s (shapeCast S128x2048 r shapeCasts_S1x128x2048_S128x2048) (ix2 p k) = s (ix2 p k) + r (ix3 (0 : Fin 1) p k) := by
    rw [addf_apply, shapeCast_1ab_ab_apply]
  unfold k0_pay4
  generalize addf s (shapeCast S128x2048 r shapeCasts_S1x128x2048_S128x2048) = y at hy ⊢
  dsimp only
  rw [shapeCast_self, mulf_apply, mulf_apply, column_spread, broadcastTo_1b_ab_apply, shapeCast_a_1a_apply, shapeCast_self, rsqrt_at,
    addf_apply, divf_apply, shapeCast_a_a1_apply, row_sum]
  unfold normed radicand
  simp only [← hy]
  rfl

variable (m : (ℓ : Loc nD τ sig) → Buf (Elt Ideal) ℓ) (c : Dev nD)

/-- A chunk that a device computes, at an index: the normalised row of its own part, its neighbour's part and the residual. -/
theorem chunk_at (i : ℕ) (p : Fin 128) (j : Fin 2048) :
    Bv m c i (ix2 p j) = normed (fun k => (Pv m c i (ix2 p k) + Pv m (ynbr c) i (ix2 p k)) + Rv m c i (ix2 p k)) (gv m c (ix1 j)) j := by
  have hs (k : Fin 2048) : k0_pay3 (F := Ideal) (shapeCast S1x128x2048 (Pv m c i) shapeCasts_S128x2048_S1x128x2048)
      (shapeCast S1x128x2048 (Yv m (ynbr c) i) shapeCasts_S128x2048_S1x128x2048) (ix2 p k) = Pv m c i (ix2 p k) + Pv m (ynbr c) i (ix2 p k) := by
    unfold k0_pay3
    rw [shapeCast_shapeCast, shapeCast_shapeCast]
    rfl
  have hr (k : Fin 2048) : shapeCast S1x128x2048 (Rv m c i) shapeCasts_S128x2048_S1x128x2048 (ix3 (0 : Fin 1) p k) = Rv m c i (ix2 p k) :=
    shapeCast_ab_1ab_apply _ _ _ _ _
  show Ov m c i (ix2 p j) = _
  unfold Ov
  rw [step_at]
  simp only [hs, hr]

end Cert.KernelIdeal.Hand

namespace Cert.ReferenceIdeal.Hand
open Cert.ReferenceIdeal Cert.ReferenceIdeal.Gen Cert.ReferenceIdeal.Read Cert.Hand
open Idealize.ShloMosaic Idealize.ShloMosaic.TcCoe Idealize.ShloMosaic.ValueIdx Idealize.SL.Sem

variable (x0 : (⟨S2x8192x2048, .f32⟩ : BufTy).Contents (Elt Ideal)) (x1 : (⟨S8192x2048, .f32⟩ : BufTy).Contents (Elt Ideal))
  (x2 : (⟨S2048, .f32⟩ : BufTy).Contents (Elt Ideal))

/-- What the problem adds up at a row and a column: the two parts and the residual. -/
def added (r : Fin 8192) (k : Fin 2048) : EReal := (x0 (ix3 (0 : Fin 2) r k) + x0 (ix3 (1 : Fin 2) r k)) + x1 (ix2 r k)

theorem added_at (r : Fin 8192) (k : Fin 2048) : val_main_v1 (F := Ideal) x0 x1 (ix2 r k) = added x0 x1 r k := by
  have hx (t : Fin 2) : idx_main_v0 (ix2 r k) t = ix3 t r k := funext fun a => match a with | ⟨0, _⟩ => rfl | ⟨1, _⟩ => rfl | ⟨2, _⟩ => rfl
  have h0 : val_main_cst (F := Ideal) (Shape.Idx.first h_S_) = 0 := word_zero
  rw [val_main_v1_apply, val_main_v0_apply, h0, Fin.sum_univ_two, hx, hx, zero_add]
  rfl

/-- The mean square of a row plus the small constant. -/
theorem radicand_at (r : Fin 8192) : val_main_v8 (F := Ideal) x0 x1 (ix2 r (0 : Fin 1)) = radicand (added x0 x1 r) := by
  have hx (k : Fin 2048) : idx_main_v3 (idx_main_v4 (ix2 r (0 : Fin 1))) k = ix2 r k := funext fun a => match a with | ⟨0, _⟩ => rfl | ⟨1, _⟩ => rfl
  have h0 : val_main_cst_0 (F := Ideal) (Shape.Idx.first h_S_) = 0 := word_zero
  rw [val_main_v8_apply, val_main_v6_apply, val_main_v4_apply, val_main_v3_apply, val_main_v5_apply, val_main_v7_apply, h0, zero_add]
  simp only [hx, val_main_v2_apply, added_at]
  rfl

/-- The reference's result at an index: the normalised row of what is added up. -/
theorem result_at (r : Fin 8192) (j : Fin 2048) :
    val_main_v15 (F := Ideal) x0 x1 x2 (ix2 r j) = normed (added x0 x1 r) (x2 (ix1 j)) j := by
  have hx : idx_main_v10 (ix2 r j) = ix2 r (0 : Fin 1) := funext fun a => match a with | ⟨0, _⟩ => rfl | ⟨1, _⟩ => rfl
  have hg : idx_main_v12 (idx_main_v13 (ix2 r j)) = ix1 j := funext fun a => match a with | ⟨0, _⟩ => rfl
  rw [← normed_eq, ← radicand_at, val_main_v15_apply, val_main_v14_apply, val_main_v11_apply, val_main_v10_apply, val_main_v9_apply,
    val_main_v13_apply, val_main_v12_apply, hx, hg, added_at]
  rfl

end Cert.ReferenceIdeal.Hand
end
-- ==== Proof.Value.lean ====
module
public import proofs.«01_k».proof.Proof.Chunk
public import proofs.«01_k».proof.Proof.RunIdeal
public import proofs.«01_k».proof.Proof.Gen.ReferenceIdeal.Run
public import proofs.«01_k».proof.Proof.Gen.ReferenceIdeal.Read
public import proofs.«01_k».proof.Defs
public import Idealize.ShloMosaic.Lib.Layout

/-!
# Every device's result is the reference's

The two halves of the rows come in 32 chunks each.  A device's own chunks are what it computed, the others what its
neighbour along "x" computed; both are the reference's rows, since a pair of devices along "y" holds the two parts.
-/

@[expose] public section
noncomputable section
namespace Cert.KernelIdeal.Hand
open Cert.KernelIdeal Cert.KernelIdeal.Gen Cert.Hand
open Idealize.ShloMosaic Idealize.ShloMosaic.TcCoe Idealize.ShloMosaic.ValueIdx Idealize.SL.Sem
open Cert.ReferenceIdeal.Hand (added result_at)
open Cert.ReferenceIdeal.Read (val_main_v15)

variable (m : (ℓ : Loc nD τ sig) → Buf (Elt Ideal) ℓ) (c : Dev nD)
  (x0 : (⟨⟨3, ![2, 8192, 2048]⟩, .f32⟩ : BufTy).Contents (Elt Ideal)) (x1 : (⟨⟨2, ![8192, 2048]⟩, .f32⟩ : BufTy).Contents (Elt Ideal))
  (x2 : (⟨⟨1, ![2048]⟩, .f32⟩ : BufTy).Contents (Elt Ideal))

/-- The coordinate of a device along "y": which part of the sum it holds. -/
def part (c : Dev nD) : Fin 2 := ⟨c.val % 2, Nat.mod_lt _ (by decide)⟩

/-- The devices hold the blocks of the whole arrays. -/
def Given : Prop := ∀ c : Dev nD,
  (m ((c : Thread nD τ).loc main_arg0) = fun i => x0 (ix3 (part c) (i 1) (i 2)))
  ∧ m ((c : Thread nD τ).loc main_arg1) = x1 ∧ m ((c : Thread nD τ).loc main_arg2) = x2

/-! ## Reading a run of 128 rows -/

theorem srcP_at {k : ℕ} (hk : k < 32) (f : Buf (Elt Ideal) ((c : Thread nD τ).loc main_arg0)) (p : Fin 128) (j : Fin 2048) (r : Fin 8192)
    (hr : r.val = 4096 * (c.val / 2) + 128 * k + p.val) :
    (srcP c k).view.read (Elt Ideal) f (ix2 p j) = f (ix3 (0 : Fin 1) r j) := by
  have he := reshapeEquiv_ix2_1ab (a := 128) (b := 2048) (squeezes_S1x128x2048_S128x2048.numel_eq) p j
  show f ((srcP c k).view.emb (ix2 p j)) = _
  refine congrArg f (funext fun a => Fin.ext ?_)
  show k0_off1 c (BitVec.ofNat 32 (128 * (ch k).val)) a + 1 * ((Shape.reshapeEquiv (squeezes_S1x128x2048_S128x2048.numel_eq) (ix2 p j) : S1x128x2048.Idx) a).val = _
  rw [k0_off1_eq, ch_val hk, he, Nat.one_mul]
  match a with
  | ⟨0, _⟩ => rfl
  | ⟨1, _⟩ => exact hr.symm
  | ⟨2, _⟩ => exact Nat.zero_add _

theorem own_at {k : ℕ} (hk : k < 32) (p : Fin 128) (j : Fin 2048) (r : Fin 8192) (hr : r.val = 4096 * (c.val / 2) + 128 * k + p.val) :
    (Rect.unit (s := S8192x2048) (k0_off2 c (BitVec.ofNat 32 (128 * (ch k).val))) S128x2048.size (k0_off2_inb c (ch k))).emb (ix2 p j) = ix2 r j := by
  refine funext fun a => Fin.ext ?_
  show k0_off2 c (BitVec.ofNat 32 (128 * (ch k).val)) a + 1 * ((ix2 p j : S128x2048.Idx) a).val = _
  rw [k0_off2_eq, ch_val hk, Nat.one_mul]
  match a with
  | ⟨0, _⟩ => exact hr.symm
  | ⟨1, _⟩ => exact Nat.zero_add _

theorem oth_at {k : ℕ} (hk : k < 32) (p : Fin 128) (j : Fin 2048) (r : Fin 8192) (hr : r.val = 4096 * (1 - c.val / 2) + 128 * k + p.val) :
    (Rect.unit (s := S8192x2048) (k0_off3 c (BitVec.ofNat 32 (128 * (ch k).val))) S128x2048.size (k0_off3_inb c (ch k))).emb (ix2 p j) = ix2 r j := by
  have hc : c.val < 4 := c.isLt
  refine funext fun a => Fin.ext ?_
  show k0_off3 c (BitVec.ofNat 32 (128 * (ch k).val)) a + 1 * ((ix2 p j : S128x2048.Idx) a).val = _
  rw [k0_off3_eq, ch_val hk, Nat.one_mul]
  match a with
  | ⟨0, _⟩ => show _ + p.val = r.val; simp; omega
  | ⟨1, _⟩ => exact Nat.zero_add _

/-! ## A chunk -/

/-- The two parts a device adds are the two of the whole sum, in one order or the other. -/
theorem parts_add (f : Fin 2 → EReal) : f (part c) + f (part (ynbr c)) = f 0 + f 1 := by
  have h : (part c = 0 ∧ part (ynbr c) = 1) ∨ (part c = 1 ∧ part (ynbr c) = 0) := by revert c; decide
  rcases h with ⟨h, h'⟩ | ⟨h, h'⟩
  · rw [h, h']
  · rw [h, h', add_comm]

theorem ynbr_half : (ynbr c).val / 2 = c.val / 2 := by revert c; decide
theorem xnbr_half : (xnbr c).val / 2 = 1 - c.val / 2 := by revert c; decide

/-- A chunk that a device computes is the reference's rows. -/
theorem chunk_eq (h : Given m x0 x1 x2) {k : ℕ} (hk : k < 32) (p : Fin 128) (j : Fin 2048) (r : Fin 8192)
    (hr : r.val = 4096 * (c.val / 2) + 128 * k + p.val) :
    Bv m c k (ix2 p j) = val_main_v15 (F := Ideal) x0 x1 x2 (ix2 r j) := by
  have hP (l : Fin 2048) : Pv m c k (ix2 p l) = x0 (ix3 (part c) r l) := by
    show (srcP c k).view.read (Elt Ideal) _ _ = _
    rw [srcP_at c hk _ p l r hr, (h c).1]
    rfl
  have hN (l : Fin 2048) : Pv m (ynbr c) k (ix2 p l) = x0 (ix3 (part (ynbr c)) r l) := by
    show (srcP (ynbr c) k).view.read (Elt Ideal) _ _ = _
    rw [srcP_at (ynbr c) hk _ p l r (by rw [ynbr_half]; exact hr), (h (ynbr c)).1]
    rfl
  have hR (l : Fin 2048) : Rv m c k (ix2 p l) = x1 (ix2 r l) := by
    show m ((c : Thread nD τ).loc main_arg1) _ = _
    rw [(h c).2.1]
    exact congrArg x1 (own_at c hk p l r hr)
  have hg : gv m c = x2 := (h c).2.2
  rw [chunk_at, result_at, hg]
  refine congrArg (fun y => normed y (x2 (ix1 j)) j) (funext fun l => ?_)
  rw [hP, hN, hR, parts_add c fun t => x0 (ix3 t r l)]
  rfl

/-! ## The whole result -/

/-- A result that holds the 64 chunks is the reference's. -/
theorem result_eq (h : Given m x0 x1 x2) (g : Buf (Elt Ideal) ((c : Thread nD τ).loc main_v1)) (hg : Holds m c g) :
    g = val_main_v15 (F := Ideal) x0 x1 x2 := by
  have hc : c.val < 4 := c.isLt
  funext x
  obtain ⟨r, j, rfl⟩ : ∃ (r : Fin 8192) (j : Fin 2048), x = ix2 r j := ⟨x 0, x 1, eq_ix2 x⟩
  have hr : r.val < 8192 := r.isLt
  have hp : r.val % 128 < 128 := Nat.mod_lt _ (by decide)
  have hk : r.val % 4096 / 128 < 32 := by omega
  by_cases ho : r.val / 4096 = c.val / 2
  · have hrow : r.val = 4096 * (c.val / 2) + 128 * (r.val % 4096 / 128) + (⟨r.val % 128, hp⟩ : Fin 128).val := by show _ = _ + _ + r.val % 128; omega
    rw [← chunk_eq m c x0 x1 x2 h hk ⟨r.val % 128, hp⟩ j r hrow, ← (hg _ hk).1]
    exact congrArg g (own_at c hk _ j r hrow).symm
  · have hrow : r.val = 4096 * (1 - c.val / 2) + 128 * (r.val % 4096 / 128) + (⟨r.val % 128, hp⟩ : Fin 128).val := by show _ = _ + _ + r.val % 128; omega
    rw [← chunk_eq m (xnbr c) x0 x1 x2 h hk ⟨r.val % 128, hp⟩ j r (by rw [xnbr_half]; exact hrow), ← (hg _ hk).2]
    exact congrArg g (oth_at c hk _ j r hrow).symm

end Cert.KernelIdeal.Hand

namespace Cert.Hand
open Idealize.ShloMosaic Idealize.ShloMosaic.TcCoe Idealize.ShloMosaic.ValueIdx Idealize.SL.Sem

/-- The block of the whole array of parts that the mesh gives a device is its part. -/
theorem block_part (c : Dev Cert.KernelIdeal.nD) (x0 : (⟨⟨3, ![2, 8192, 2048]⟩, .f32⟩ : BufTy).Contents (Elt Ideal)) :
    (Layout.blockN ⟨3, ![1, 8192, 2048]⟩ ⟨3, ![2, 8192, 2048]⟩ (Layout.meshBlock [2, 2] ![[1], [], []] c) x0)
      = fun i => x0 (ix3 (Cert.KernelIdeal.Hand.part c) (i 1) (i 2)) := by
  funext i
  rw [Layout.blockN_apply]
  refine congrArg x0 (funext fun a => Fin.ext ?_)
  rw [Layout.TilesN.idx_val]
  have h0 : (i 0).val < 1 := (i 0).isLt
  match a with
  | ⟨0, _⟩ =>
    show (Layout.meshLin [2, 2] c.val [1]) * 1 + (i 0).val = c.val % 2
    have : Layout.meshLin [2, 2] c.val [1] = c.val % 2 := by revert c; decide
    omega
  | ⟨1, _⟩ => show 0 * 8192 + (i 1).val = (i 1).val; omega
  | ⟨2, _⟩ => show 0 * 2048 + (i 2).val = (i 2).val; omega

/-- Every device's result is the reference's result. -/
theorem value : @algebraic_KernelIdeal_ReferenceIdeal Cert.KernelIdeal.Gen.facts Cert.ReferenceIdeal.Gen.facts := by
  intro m g m' g' _ hagree
  refine ⟨Cert.ReferenceIdeal.Read.val_main_v15 (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · have hgiven : Cert.KernelIdeal.Hand.Given m _ _ _ := fun c => ⟨(hagree c).1.trans (block_part c _), (hagree c).2.1, (hagree c).2.2⟩
    refine (θ_run _ _ _).mono ?_ (Cert.KernelIdeal.Hand.run_main (F := Ideal) m g)
    exact fun r hr c => ⟨Cert.KernelIdeal.Hand.result_eq m c _ _ _ hgiven _ (hr.1 c).1.2, (hr.1 c).1.1.1, (hr.1 c).1.1.2, (hr.1 c).2⟩
  · refine (θ_run _ _ _).mono ?_ (Cert.ReferenceIdeal.Value.run (F := Ideal) m' g')
    exact fun r hr => ⟨(hr 0).1.trans (Cert.ReferenceIdeal.Read.val_main_v15_eq _ _ _), (hr 0).2⟩

end Cert.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Hand.frame_kernel, Cert.Hand.frame_kernelIdeal, Cert.Hand.frame_referenceIdeal, trivial, Cert.Hand.value⟩

end Cert.Proof

end
